-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![384, 1536]⟩ ⟨2, ![1536, 1536]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v70) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S384x1536 : Shape := ⟨2, ![384, 1536]⟩
abbrev S6x384x256 : Shape := ⟨3, ![6, 384, 256]⟩
abbrev S6 : Shape := ⟨1, ![6]⟩
abbrev S_ : Shape := ⟨0, ![]⟩
abbrev S384x768 : Shape := ⟨2, ![384, 768]⟩
abbrev S768x256 : Shape := ⟨2, ![768, 256]⟩
abbrev S384x256 : Shape := ⟨2, ![384, 256]⟩
abbrev S1x384x256 : Shape := ⟨3, ![1, 384, 256]⟩
abbrev S1 : Shape := ⟨1, ![1]⟩

abbrev nBuf : Space → Nat
  | .hbm => 3
  | .vmem => 9
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S384x1536, .f32⟩
  | .local _ .vmem, ⟨0, _⟩ => ⟨S1536x768, .bf16⟩
  | .local _ .vmem, ⟨1, _⟩ => ⟨S768x1536, .bf16⟩
  | .local _ .vmem, ⟨2, _⟩ => ⟨S384x1536, .f32⟩
  | .local _ .vmem, ⟨3, _⟩ => ⟨S6x384x256, .i8⟩
  | .local _ .vmem, ⟨4, _⟩ => ⟨S6x384x256, .i8⟩
  | .local _ .vmem, ⟨5, _⟩ => ⟨S6x384x256, .i8⟩
  | .local _ .vmem, ⟨6, _⟩ => ⟨S6x384x256, .i8⟩
  | .local _ .vmem, ⟨7, _⟩ => ⟨S6x384x256, .i8⟩
  | .local _ .vmem, ⟨8, _⟩ => ⟨S6x384x256, .i8⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v8 : BitVec 32 := Scalar.addi v2 c3_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_off1 (d0 : Dev nD) (c2_i32_8 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.addi v2 c2_i32_8
  let c4_i32_9 : BitVec 32 := 4#32
  let v13 : BitVec 32 := Scalar.remsi v12 c4_i32_9
  let c384_i32 : BitVec 32 := 384#32
  let v14 : BitVec 32 := Scalar.muli v13 c384_i32
  let v15 : Index := Scalar.indexCast v14
  let c0 : Index := 0#32
  ![v15.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_18 : BitVec 32 := 3#32
  let v32 : BitVec 32 := Scalar.addi v2 c3_i32_18
  let c4_i32_19 : BitVec 32 := 4#32
  let v33 : BitVec 32 := Scalar.remsi v32 c4_i32_19
  let c1_i32_24 : BitVec 32 := 1#32
  let v34 : BitVec 32 := Scalar.muli v33 c1_i32_24
  let v35 : BitVec 32 := Scalar.addi c0_i32_25 v34
  v35.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_41 : BitVec 32 := 1#32
  let v64 : BitVec 32 := Scalar.addi v2 c1_i32_41
  let c4_i32_42 : BitVec 32 := 4#32
  let v65 : BitVec 32 := Scalar.remsi v64 c4_i32_42
  let c1_i32_47 : BitVec 32 := 1#32
  let v66 : BitVec 32 := Scalar.muli v65 c1_i32_47
  let v67 : BitVec 32 := Scalar.addi c0_i32_48 v66
  v67.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v96 : BitVec 32 := Scalar.addi v2 c3_i32_64
  let c4_i32_65 : BitVec 32 := 4#32
  let v97 : BitVec 32 := Scalar.remsi v96 c4_i32_65
  let c1_i32_70 : BitVec 32 := 1#32
  let v98 : BitVec 32 := Scalar.muli v97 c1_i32_70
  let v99 : BitVec 32 := Scalar.addi c0_i32_71 v98
  v99.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_87 : BitVec 32 := 1#32
  let v128 : BitVec 32 := Scalar.addi v2 c1_i32_87
  let c4_i32_88 : BitVec 32 := 4#32
  let v129 : BitVec 32 := Scalar.remsi v128 c4_i32_88
  let c1_i32_93 : BitVec 32 := 1#32
  let v130 : BitVec 32 := Scalar.muli v129 c1_i32_93
  let v131 : BitVec 32 := Scalar.addi c0_i32_94 v130
  v131.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_110 : BitVec 32 := 3#32
  let v160 : BitVec 32 := Scalar.addi v2 c3_i32_110
  let c4_i32_111 : BitVec 32 := 4#32
  let v161 : BitVec 32 := Scalar.remsi v160 c4_i32_111
  let c1_i32_116 : BitVec 32 := 1#32
  let v162 : BitVec 32 := Scalar.muli v161 c1_i32_116
  let v163 : BitVec 32 := Scalar.addi c0_i32_117 v162
  v163.toNat
def k0_dev8 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_133 : BitVec 32 := 1#32
  let v192 : BitVec 32 := Scalar.addi v2 c1_i32_133
  let c4_i32_134 : BitVec 32 := 4#32
  let v193 : BitVec 32 := Scalar.remsi v192 c4_i32_134
  let c1_i32_138 : BitVec 32 := 1#32
  let v194 : BitVec 32 := Scalar.muli v193 c1_i32_138
  let v195 : BitVec 32 := Scalar.addi c0_i32_139 v194
  v195.toNat
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_157 : BitVec 32 := 1#32
  let v224 : BitVec 32 := Scalar.addi v2 c1_i32_157
  let c4_i32_158 : BitVec 32 := 4#32
  let v225 : BitVec 32 := Scalar.remsi v224 c4_i32_158
  let c1_i32_163 : BitVec 32 := 1#32
  let v226 : BitVec 32 := Scalar.muli v225 c1_i32_163
  let v227 : BitVec 32 := Scalar.addi c0_i32_164 v226
  v227.toNat
def k0_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_196 : BitVec 32 := 3#32
  let v270 : BitVec 32 := Scalar.addi v2 c3_i32_196
  let c4_i32_197 : BitVec 32 := 4#32
  let v271 : BitVec 32 := Scalar.remsi v270 c4_i32_197
  let c1_i32_202 : BitVec 32 := 1#32
  let v272 : BitVec 32 := Scalar.muli v271 c1_i32_202
  let v273 : BitVec 32 := Scalar.addi c0_i32_203 v272
  v273.toNat
def k0_dev11 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_221 : BitVec 32 := 3#32
  let v302 : BitVec 32 := Scalar.addi v2 c3_i32_221
  let c4_i32_222 : BitVec 32 := 4#32
  let v303 : BitVec 32 := Scalar.remsi v302 c4_i32_222
  let c1_i32_227 : BitVec 32 := 1#32
  let v304 : BitVec 32 := Scalar.muli v303 c1_i32_227
  let v305 : BitVec 32 := Scalar.addi c0_i32_228 v304
  v305.toNat
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_260 : BitVec 32 := 1#32
  let v348 : BitVec 32 := Scalar.addi v2 c1_i32_260
  let c4_i32_261 : BitVec 32 := 4#32
  let v349 : BitVec 32 := Scalar.remsi v348 c4_i32_261
  let c1_i32_266 : BitVec 32 := 1#32
  let v350 : BitVec 32 := Scalar.muli v349 c1_i32_266
  let v351 : BitVec 32 := Scalar.addi c0_i32_267 v350
  v351.toNat
def k0_dev13 (d0 : Dev nD) : Nat :=
  let c0_i32_292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_285 : BitVec 32 := 1#32
  let v380 : BitVec 32 := Scalar.addi v2 c1_i32_285
  let c4_i32_286 : BitVec 32 := 4#32
  let v381 : BitVec 32 := Scalar.remsi v380 c4_i32_286
  let c1_i32_291 : BitVec 32 := 1#32
  let v382 : BitVec 32 := Scalar.muli v381 c1_i32_291
  let v383 : BitVec 32 := Scalar.addi c0_i32_292 v382
  v383.toNat
def k0_dev14 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_324 : BitVec 32 := 3#32
  let v426 : BitVec 32 := Scalar.addi v2 c3_i32_324
  let c4_i32_325 : BitVec 32 := 4#32
  let v427 : BitVec 32 := Scalar.remsi v426 c4_i32_325
  let c1_i32_330 : BitVec 32 := 1#32
  let v428 : BitVec 32 := Scalar.muli v427 c1_i32_330
  let v429 : BitVec 32 := Scalar.addi c0_i32_331 v428
  v429.toNat
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_349 : BitVec 32 := 3#32
  let v458 : BitVec 32 := Scalar.addi v2 c3_i32_349
  let c4_i32_350 : BitVec 32 := 4#32
  let v459 : BitVec 32 := Scalar.remsi v458 c4_i32_350
  let c1_i32_355 : BitVec 32 := 1#32
  let v460 : BitVec 32 := Scalar.muli v459 c1_i32_355
  let v461 : BitVec 32 := Scalar.addi c0_i32_356 v460
  v461.toNat
def k0_dev16 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_388 : BitVec 32 := 1#32
  let v504 : BitVec 32 := Scalar.addi v2 c1_i32_388
  let c4_i32_389 : BitVec 32 := 4#32
  let v505 : BitVec 32 := Scalar.remsi v504 c4_i32_389
  let c1_i32_394 : BitVec 32 := 1#32
  let v506 : BitVec 32 := Scalar.muli v505 c1_i32_394
  let v507 : BitVec 32 := Scalar.addi c0_i32_395 v506
  v507.toNat
def k0_dev17 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_413 : BitVec 32 := 1#32
  let v536 : BitVec 32 := Scalar.addi v2 c1_i32_413
  let c4_i32_414 : BitVec 32 := 4#32
  let v537 : BitVec 32 := Scalar.remsi v536 c4_i32_414
  let c1_i32_419 : BitVec 32 := 1#32
  let v538 : BitVec 32 := Scalar.muli v537 c1_i32_419
  let v539 : BitVec 32 := Scalar.addi c0_i32_420 v538
  v539.toNat
def k0_dev18 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_452 : BitVec 32 := 3#32
  let v582 : BitVec 32 := Scalar.addi v2 c3_i32_452
  let c4_i32_453 : BitVec 32 := 4#32
  let v583 : BitVec 32 := Scalar.remsi v582 c4_i32_453
  let c1_i32_458 : BitVec 32 := 1#32
  let v584 : BitVec 32 := Scalar.muli v583 c1_i32_458
  let v585 : BitVec 32 := Scalar.addi c0_i32_459 v584
  v585.toNat
def k0_dev19 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_477 : BitVec 32 := 3#32
  let v614 : BitVec 32 := Scalar.addi v2 c3_i32_477
  let c4_i32_478 : BitVec 32 := 4#32
  let v615 : BitVec 32 := Scalar.remsi v614 c4_i32_478
  let c1_i32_483 : BitVec 32 := 1#32
  let v616 : BitVec 32 := Scalar.muli v615 c1_i32_483
  let v617 : BitVec 32 := Scalar.addi c0_i32_484 v616
  v617.toNat
def k0_dev20 (d0 : Dev nD) : Nat :=
  let c0_i32_523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_516 : BitVec 32 := 1#32
  let v660 : BitVec 32 := Scalar.addi v2 c1_i32_516
  let c4_i32_517 : BitVec 32 := 4#32
  let v661 : BitVec 32 := Scalar.remsi v660 c4_i32_517
  let c1_i32_522 : BitVec 32 := 1#32
  let v662 : BitVec 32 := Scalar.muli v661 c1_i32_522
  let v663 : BitVec 32 := Scalar.addi c0_i32_523 v662
  v663.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_528 : BitVec 32 := 384#32
  let v672 : BitVec 32 := Scalar.muli v2 c384_i32_528
  let v673 : Index := Scalar.indexCast v672
  let c0_529 : Index := 0#32
  ![v673.toNat, 0]
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x768 : Shape := ⟨2, ![1536, 768]⟩
abbrev S768x1536 : Shape := ⟨2, ![768, 1536]⟩
abbrev S1536x1536 : Shape := ⟨2, ![1536, 1536]⟩
abbrev S384x1536 : Shape := ⟨2, ![384, 1536]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S1536x3072, .bf16⟩
  | .hbm, ⟨1, _⟩ => ⟨S3072x1536, .bf16⟩
  | .hbm, ⟨2, _⟩ => ⟨S1536x3072, .f32⟩
  | .hbm, ⟨3, _⟩ => ⟨S3072x1536, .f32⟩
  | .hbm, ⟨4, _⟩ => ⟨S1536x768, .f32⟩
  | .hbm, ⟨5, _⟩ => ⟨S768x1536, .f32⟩
  | .hbm, ⟨6, _⟩ => ⟨S1536x1536, .f32⟩
  | .hbm, ⟨7, _⟩ => ⟨S1536x768, .f32⟩
  | .hbm, ⟨8, _⟩ => ⟨S768x1536, .f32⟩
  | .hbm, ⟨9, _⟩ => ⟨S1536x1536, .f32⟩
  | .hbm, ⟨10, _⟩ => ⟨S1536x768, .f32⟩
  | .hbm, ⟨11, _⟩ => ⟨S768x1536, .f32⟩
  | .hbm, ⟨12, _⟩ => ⟨S1536x1536, .f32⟩
  | .hbm, ⟨13, _⟩ => ⟨S1536x768, .f32⟩
  | .hbm, ⟨14, _⟩ => ⟨S768x1536, .f32⟩
  | .hbm, ⟨15, _⟩ => ⟨S1536x1536, .f32⟩
  | .hbm, ⟨16, _⟩ => ⟨S384x1536, .f32⟩
  | .hbm, ⟨17, _⟩ => ⟨S384x1536, .f32⟩
  | .hbm, ⟨18, _⟩ => ⟨S384x1536, .f32⟩
  | .hbm, ⟨19, _⟩ => ⟨S384x1536, .f32⟩
  | .hbm, ⟨20, _⟩ => ⟨S1536x1536, .f32⟩
  | .hbm, ⟨21, _⟩ => ⟨S384x1536, .f32⟩
  | .hbm, ⟨22, _⟩ => ⟨S384x1536, .f32⟩
  | .hbm, ⟨23, _⟩ => ⟨S384x1536, .f32⟩
  | .hbm, ⟨24, _⟩ => ⟨S384x1536, .f32⟩
  | .hbm, ⟨25, _⟩ => ⟨S1536x1536, .f32⟩
  | .hbm, ⟨26, _⟩ => ⟨S384x1536, .f32⟩
  | .hbm, ⟨27, _⟩ => ⟨S384x1536, .f32⟩
  | .hbm, ⟨28, _⟩ => ⟨S384x1536, .f32⟩
  | .hbm, ⟨29, _⟩ => ⟨S384x1536, .f32⟩
  | .hbm, ⟨30, _⟩ => ⟨S1536x1536, .f32⟩
  | .hbm, ⟨31, _⟩ => ⟨S384x1536, .f32⟩
  | .hbm, ⟨32, _⟩ => ⟨S384x1536, .f32⟩
  | .hbm, ⟨33, _⟩ => ⟨S384x1536, .f32⟩
  | .hbm, ⟨34, _⟩ => ⟨S384x1536, .f32⟩
  | .hbm, ⟨35, _⟩ => ⟨S1536x1536, .f32⟩
  | .hbm, ⟨36, _⟩ => ⟨S1536x1536, .i32⟩
  | .hbm, ⟨37, _⟩ => ⟨S_, .i32⟩
  | .hbm, ⟨38, _⟩ => ⟨S1536x1536, .i32⟩
  | .hbm, ⟨39, _⟩ => ⟨S1536x1536, .i32⟩
  | .hbm, ⟨40, _⟩ => ⟨S_, .i32⟩
  | .hbm, ⟨41, _⟩ => ⟨S1536x1536, .i32⟩
  | .hbm, ⟨42, _⟩ => ⟨S1536x1536, .i1⟩
  | .hbm, ⟨43, _⟩ => ⟨S1536x1536, .f32⟩
  | .hbm, ⟨44, _⟩ => ⟨S1536x1536, .f32⟩
  | .hbm, ⟨45, _⟩ => ⟨S_, .f32⟩
  | .hbm, ⟨46, _⟩ => ⟨S1536x1536, .f32⟩
  | .hbm, ⟨47, _⟩ => ⟨S1536x1536, .f32⟩
  | .hbm, ⟨48, _⟩ => ⟨S1536x1536, .f32⟩
  | .hbm, ⟨49, _⟩ => ⟨S_, .f32⟩
  | .hbm, ⟨50, _⟩ => ⟨S1536x1536, .f32⟩
  | .hbm, ⟨51, _⟩ => ⟨S1536x1536, .f32⟩
  | .hbm, ⟨52, _⟩ => ⟨S_, .f32⟩
  | .hbm, ⟨53, _⟩ => ⟨S1536x1536, .f32⟩
  | .hbm, ⟨54, _⟩ => ⟨S1536x1536, .f32⟩
  | .hbm, ⟨55, _⟩ => ⟨S_, .f32⟩
  | .hbm, ⟨56, _⟩ => ⟨S1536x1536, .f32⟩
  | .hbm, ⟨57, _⟩ => ⟨S1536x1536, .f32⟩
  | .hbm, ⟨58, _⟩ => ⟨S1536x1536, .f32⟩
  | .hbm, ⟨59, _⟩ => ⟨S_, .f32⟩
  | .hbm, ⟨60, _⟩ => ⟨S1536x1536, .f32⟩
  | .hbm, ⟨61, _⟩ => ⟨S1536x1536, .f32⟩
  | .hbm, ⟨62, _⟩ => ⟨S1536x1536, .f32⟩
  | .hbm, ⟨63, _⟩ => ⟨S_, .f32⟩
  | .hbm, ⟨64, _⟩ => ⟨S1536x1536, .f32⟩
  | .hbm, ⟨65, _⟩ => ⟨S1536x1536, .f32⟩
  | .hbm, ⟨66, _⟩ => ⟨S_, .f32⟩
  | .hbm, ⟨67, _⟩ => ⟨S1536x1536, .f32⟩
  | .hbm, ⟨68, _⟩ => ⟨S1536x1536, .f32⟩
  | .hbm, ⟨69, _⟩ => ⟨S_, .f32⟩
  | .hbm, ⟨70, _⟩ => ⟨S1536x1536, .f32⟩
  | .hbm, ⟨71, _⟩ => ⟨S1536x1536, .f32⟩
  | .hbm, ⟨72, _⟩ => ⟨S1536x1536, .f32⟩
  | .hbm, ⟨73, _⟩ => ⟨S_, .f32⟩
  | .hbm, ⟨74, _⟩ => ⟨S1536x1536, .f32⟩
  | .hbm, ⟨75, _⟩ => ⟨S1536x1536, .f32⟩
  | .hbm, ⟨76, _⟩ => ⟨S1536x1536, .f32⟩
  | .hbm, ⟨77, _⟩ => ⟨S_, .f32⟩
  | .hbm, ⟨78, _⟩ => ⟨S1536x1536, .f32⟩
  | .hbm, ⟨79, _⟩ => ⟨S1536x1536, .f32⟩
  | .hbm, ⟨80, _⟩ => ⟨S_, .f32⟩
  | .hbm, ⟨81, _⟩ => ⟨S1536x1536, .f32⟩
  | .hbm, ⟨82, _⟩ => ⟨S1536x1536, .f32⟩
  | .hbm, ⟨83, _⟩ => ⟨S_, .f32⟩
  | .hbm, ⟨84, _⟩ => ⟨S1536x1536, .f32⟩
  | .hbm, ⟨85, _⟩ => ⟨S1536x1536, .f32⟩
  | .hbm, ⟨86, _⟩ => ⟨S1536x1536, .f32⟩
  | _, _ => ⟨S1536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_c : Ref sig .tc := ⟨.hbm, 37, rfl⟩
abbrev main_v35 : Ref sig .tc := ⟨.hbm, 38, rfl⟩
abbrev main_v36 : Ref sig .tc := ⟨.hbm, 39, rfl⟩
abbrev main_c_0 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_1 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_cst_3 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_8 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_cst_10 : Ref sig .tc := ⟨.hbm, 80, rfl⟩
abbrev main_v66 : Ref sig .tc := ⟨.hbm, 81, rfl⟩
abbrev main_v67 : Ref sig .tc := ⟨.hbm, 82, rfl⟩
abbrev main_cst_11 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== Proof.Steps.lean ====
/-
  The kernel as eighteen short steps.

  Device `c` owns rows `384 c … 384 c + 383` of the result, cut into six pieces of 256 columns. After the handshake with
  its two neighbours it performs, for the pieces `h = 0 … 5`,

  * `diagStep`: round the partial product for the opposite device's rows and send it to one neighbour,
  * `midStep`: round the partial product for a neighbour's rows and send it there; wait for the opposite device's
    partial product, which arrived for the OTHER neighbour's rows, add this device's own to it, round the sum and send it on,
  * `finStep`: add to its own partial product what the two neighbours sent,
  * and then waits for the departure of everything that it sent.

  Every step is a definition with the piece as a parameter, and `body_steps` states that the printed kernel function is
  their sequence.
-/
module

public import proofs.«01_k».proof.Proof.Gen.KernelIdeal.Skeleton

@[expose] public section

noncomputable section

namespace Cert.Relay

open Idealize.ShloMosaic Idealize.SL.Sem
open Cert.KernelIdeal Cert.KernelIdeal.Gen

variable {F : FTy → Type} [FloatOps F]

/-! ## Buffers and semaphores by kind of message

A message is of one of three kinds: `0`, a partial product sent to the neighbour whose rows it is for; `1`, a partial
product for the opposite device's rows, sent to the neighbour that relays it; `2`, a relayed sum. -/

/-- The piece buffers that a device sends from. -/
def outB : Fin 3 → Memref sig .tc .vmem S6x384x256 .i8
  | 0 => Memref.whole cc0_scratch0 | 1 => Memref.whole cc0_scratch1 | 2 => Memref.whole cc0_scratch2
/-- The piece buffers that its neighbours send to. -/
def inB : Fin 3 → Memref sig .tc .vmem S6x384x256 .i8
  | 0 => Memref.whole cc0_scratch3 | 1 => Memref.whole cc0_scratch4 | 2 => Memref.whole cc0_scratch5
/-- The semaphores of departures. -/
def sendA : Fin 3 → DmaSems sig S6 | 0 => cc0_scratch6 | 1 => cc0_scratch7 | 2 => cc0_scratch8
/-- The semaphores of arrivals. -/
def recvA : Fin 3 → DmaSems sig S6 | 0 => cc0_scratch9 | 1 => cc0_scratch10 | 2 => cc0_scratch11

theorem outB_whole (k : Fin 3) : (outB k).IsWhole := by fin_cases k <;> exact Memref.isWhole_whole _
theorem inB_whole (k : Fin 3) : (inB k).IsWhole := by fin_cases k <;> exact Memref.isWhole_whole _

theorem piece_inb (h : Fin 6) : ∀ a, (![h.val, 0, 0] : Fin 3 → Nat) a + S1x384x256.size a ≤ S6x384x256.size a := by
  revert h; decide
theorem sem_inb (h : Fin 6) : ∀ a, (![h.val] : Fin 1 → Nat) a + S1.size a ≤ S6.size a := by revert h; decide
theorem colB_inb (h : Fin 6) : ∀ a, (![0, 256 * h.val] : Fin 2 → Nat) a + S768x256.size a ≤ S768x1536.size a := by
  revert h; decide
theorem colO_inb (h : Fin 6) : ∀ a, (![0, 256 * h.val] : Fin 2 → Nat) a + S384x256.size a ≤ S384x1536.size a := by
  revert h; decide

/-- Piece `h` of a piece buffer, as a rectangle of it. -/
def pieceR (h : Fin 6) : Rect S6x384x256 := Rect.unit (s := S6x384x256) ![h.val, 0, 0] S1x384x256.size (piece_inb h)
/-- The columns of piece `h` of `B`'s block. -/
def colB (h : Fin 6) : Rect S768x1536 := Rect.unit (s := S768x1536) ![0, 256 * h.val] S768x256.size (colB_inb h)
/-- The columns of piece `h` of the result's block. -/
def colO (h : Fin 6) : Rect S384x1536 := Rect.unit (s := S384x1536) ![0, 256 * h.val] S384x256.size (colO_inb h)

theorem piece_packed (h : Fin 6) : (pieceR h).PackedRows (EltTy.packing .i8) := by
  fin_cases h
  · exact packedi8_S6x384x256_S1x384x256_0_0_0
  · exact packedi8_S6x384x256_S1x384x256_1_0_0
  · exact packedi8_S6x384x256_S1x384x256_2_0_0
  · exact packedi8_S6x384x256_S1x384x256_3_0_0
  · exact packedi8_S6x384x256_S1x384x256_4_0_0
  · exact packedi8_S6x384x256_S1x384x256_5_0_0
theorem piece_words (h : Fin 6) : (pieceR h).WholeWords (EltTy.packing .i8) := by
  fin_cases h
  · exact wordsi8_S6x384x256_S1x384x256_0_0_0
  · exact wordsi8_S6x384x256_S1x384x256_1_0_0
  · exact wordsi8_S6x384x256_S1x384x256_2_0_0
  · exact wordsi8_S6x384x256_S1x384x256_3_0_0
  · exact wordsi8_S6x384x256_S1x384x256_4_0_0
  · exact wordsi8_S6x384x256_S1x384x256_5_0_0

/-- Piece `h` of a piece buffer, as a matrix. -/
def pieceM (M : Memref sig .tc .vmem S6x384x256 .i8) (h : Fin 6) : Memref sig .tc .vmem S384x256 .i8 :=
  (M.slice (pieceR h) (fun _ => rfl)).squeeze S384x256 squeezes_S1x384x256_S384x256
/-- Semaphore `h` of an array of six. -/
def semAt (M : DmaSems sig S6) (h : Fin 6) : DmaSem sig :=
  ((M.slice (Rect.unit (s := S6) ![h.val] S1.size (sem_inb h))).squeeze S_ squeezes_S1_S_).sem

theorem pieceM_words {M : Memref sig .tc .vmem S6x384x256 .i8} (hM : M.IsWhole) (h : Fin 6) : (pieceM M h).view.WordExact :=
  (hM.wordExact_slice rfl _ (piece_words h)).reshape _ _

/-! ## Arithmetic -/

/-- The product of rows of `A`'s block and columns of `B`'s. -/
def prodF (a : Vec F S384x768 .bf16) (b : Vec F S768x256 .bf16) : FVec F S384x256 .f32 :=
  matmul dot_S384x768_S768x256_S384x256_1_0_0_1_n_n none (shapeCast S384x768 a shapeCasts_S384x768_S384x768)
    (shapeCast S768x256 b shapeCasts_S768x256_S768x256) (constant S384x256 .f32 0x00000000#32)
/-- A matrix in 8-bit steps of 160/127: scaled, rounded to the nearest integer, clipped. -/
def quantF (x : FVec F S384x256 .f32) : IVec S384x256 8 :=
  fptosi 8 (minimumf (broadcast S384x256 (Scalar.ofBits .f32 0x42FE0000#32))
    (maximumf (broadcast S384x256 (Scalar.ofBits .f32 0xC2FE0000#32))
      (roundeven (mulf x (broadcast S384x256 (Scalar.ofBits .f32 0x3F4B3333#32))))))
/-- The value of a matrix of 8-bit steps. -/
def dequantF (q : IVec S384x256 8) : FVec F S384x256 .f32 :=
  mulf (sitofp .f32 q) (broadcast S384x256 (Scalar.ofBits .f32 0x3FA14285#32))
/-- A matrix as a piece of a piece buffer, -/
def toPiece (q : IVec S384x256 8) : IVec S1x384x256 8 := shapeCast S1x384x256 q shapeCasts_S384x256_S1x384x256
/-- and a piece of a piece buffer as a matrix. -/
def ofPiece (q : Vec F S1x384x256 .i8) : IVec S384x256 8 := shapeCast S384x256 q shapeCasts_S1x384x256_S384x256

/-! ## Devices -/

/-- The device that piece `h`'s partial product for the opposite device's rows goes to. -/
def diagDev (c : Dev nD) : Fin 6 → Dev nD
  | 0 => ⟨k0_dev3 c, k0_dev3_lt c⟩ | 1 => ⟨k0_dev4 c, k0_dev4_lt c⟩ | 2 => ⟨k0_dev5 c, k0_dev5_lt c⟩
  | 3 => ⟨k0_dev6 c, k0_dev6_lt c⟩ | 4 => ⟨k0_dev7 c, k0_dev7_lt c⟩ | 5 => ⟨k0_dev8 c, k0_dev8_lt c⟩
/-- The device that piece `h`'s partial product for its own rows goes to. -/
def dirDev (c : Dev nD) : Fin 6 → Dev nD
  | 0 => ⟨k0_dev9 c, k0_dev9_lt c⟩ | 1 => ⟨k0_dev11 c, k0_dev11_lt c⟩ | 2 => ⟨k0_dev13 c, k0_dev13_lt c⟩
  | 3 => ⟨k0_dev15 c, k0_dev15_lt c⟩ | 4 => ⟨k0_dev17 c, k0_dev17_lt c⟩ | 5 => ⟨k0_dev19 c, k0_dev19_lt c⟩
/-- The device that piece `h`'s relayed sum goes to. -/
def combDev (c : Dev nD) : Fin 6 → Dev nD
  | 0 => ⟨k0_dev10 c, k0_dev10_lt c⟩ | 1 => ⟨k0_dev12 c, k0_dev12_lt c⟩ | 2 => ⟨k0_dev14 c, k0_dev14_lt c⟩
  | 3 => ⟨k0_dev16 c, k0_dev16_lt c⟩ | 4 => ⟨k0_dev18 c, k0_dev18_lt c⟩ | 5 => ⟨k0_dev20 c, k0_dev20_lt c⟩

/-- The rows of `A`'s block that are `r + 1` devices further on. -/
def rowsAt (c : Dev nD) (r : Fin 3) : Rect S1536x768 :=
  Rect.unit (s := S1536x768) (k0_off1 c (BitVec.ofNat 32 (1 + r.val))) S384x768.size (k0_off1_inb c r)
/-- The rows of `A`'s block that are the device's own. -/
def rowsOwn (c : Dev nD) : Rect S1536x768 := Rect.unit (s := S1536x768) (k0_off2 c) S384x768.size (k0_off2_inb c)
/-- How much further on the receiver of piece `h`'s direct message is (less one): one device, or three. -/
def fwd : Fin 6 → Fin 3 | 0 => 0 | 1 => 2 | 2 => 0 | 3 => 2 | 4 => 0 | 5 => 2
/-- and that of its relayed sum: three devices, or one. -/
def bwd : Fin 6 → Fin 3 | 0 => 2 | 1 => 0 | 2 => 2 | 3 => 0 | 4 => 2 | 5 => 0

/-! ## The steps -/

abbrev P (F : FTy → Type) (α : Type) : Type 1 := Prog (TpuEff nD τ sig (Elt F) Λ₀ .tc) α

abbrev aM : Memref sig .tc .vmem S1536x768 .bf16 := Memref.whole cc0_stg0_0
abbrev bM : Memref sig .tc .vmem S768x1536 .bf16 := Memref.whole cc0_stg1_0
abbrev oM : Memref sig .tc .vmem S384x1536 .f32 := Memref.whole cc0_stg2_0
abbrev barS : Sem sig := (SemArray.scalar (sig.barrier 0 rfl) : Sems sig S_).sem

/-- The handshake: a unit to either neighbour, then two units awaited. -/
def meet (c : Dev nD) : P F PUnit := do
  semSignalWord (⟨k0_dev1 c, k0_dev1_lt c⟩ : Dev nD) barS 1#32
  semSignalWord (⟨k0_dev2 c, k0_dev2_lt c⟩ : Dev nD) barS 1#32
  semWaitWord barS 2#32

/-- Fill piece `h` of the send buffer of kind `k` and send it to device `d`. -/
def sendStep (k : Fin 3) (h : Fin 6) (d : Dev nD) (q : IVec S1x384x256 8) : P F PUnit := do
  let _ ← Prog.lift (.load (outB k) (pieceR h).toLoadRect (View.loadsAt_vmem h_S1x384x256))
  Prog.lift (.store (outB k) (pieceR h) q Finset.univ
    (View.stores_vmem h_S1x384x256 ((outB_whole k).storeExact_slice rfl _ (piece_packed h)) (fun _ => rfl)) (.inl rfl))
  Prog.lift (.enqueueDma (pieceM (outB k) h)
    (.remote (Dev.tc d) (pieceM (inB k) h) (.dma (semAt (sendA k) h))) (.dma (semAt (recvA k) h))
    (pieceM_words (outB_whole k) h) (pieceM_words (inB_whole k) h) ⟨⟨rfl, Or.inl rfl⟩, trivial⟩)

/-- Wait for the arrival of piece `h` of kind `k`, -/
def recvWait (k : Fin 3) (h : Fin 6) : P F PUnit :=
  Prog.lift (.waitDma2 (semAt (recvA k) h) (pieceM (outB k) h) (pieceM (inB k) h)
    (pieceM_words (outB_whole k) h) (pieceM_words (inB_whole k) h))
/-- and for its departure. -/
def sendWait (k : Fin 3) (h : Fin 6) : P F PUnit :=
  Prog.lift (.waitDma2 (semAt (sendA k) h) (pieceM (inB k) h) (pieceM (outB k) h)
    (pieceM_words (inB_whole k) h) (pieceM_words (outB_whole k) h))

/-- The message of the partial product for rows `r + 1` devices further on, of kind `k`, to device `d`. -/
def partStep (c : Dev nD) (k : Fin 3) (r : Fin 3) (h : Fin 6) (d : Dev nD) : P F PUnit := do
  let a ← Prog.lift (.load aM (rowsAt c r).toLoadRect (View.loadsAt_vmem h_S384x768))
  let b ← Prog.lift (.load bM (colB h).toLoadRect (View.loadsAt_vmem h_S768x256))
  sendStep k h d (toPiece (quantF (prodF (F := F) a b)))

def diagStep (c : Dev nD) (h : Fin 6) : P F PUnit := partStep c 1 1 h (diagDev c h)

/-- The relay: the opposite device's piece, plus this device's partial product, rounded and sent on. -/
def relayStep (c : Dev nD) (h : Fin 6) : P F PUnit := do
  recvWait 1 h
  let w ← Prog.lift (.load (inB 1) (pieceR h).toLoadRect (View.loadsAt_vmem h_S1x384x256))
  let a ← Prog.lift (.load aM (rowsAt c (bwd h)).toLoadRect (View.loadsAt_vmem h_S384x768))
  let b ← Prog.lift (.load bM (colB h).toLoadRect (View.loadsAt_vmem h_S768x256))
  sendStep 2 h (combDev c h) (toPiece (quantF (addf (dequantF (ofPiece (F := F) w)) (prodF (F := F) a b))))

def midStep (c : Dev nD) (h : Fin 6) : P F PUnit := do
  partStep c 0 (fwd h) h (dirDev c h)
  relayStep c h

/-- The device's own partial product, and what arrived for its rows, added up. -/
def finStep (c : Dev nD) (h : Fin 6) : P F PUnit := do
  let a ← Prog.lift (.load aM (rowsOwn c).toLoadRect (View.loadsAt_vmem h_S384x768))
  let b ← Prog.lift (.load bM (colB h).toLoadRect (View.loadsAt_vmem h_S768x256))
  recvWait 0 h
  recvWait 2 h
  let x ← Prog.lift (.load (inB 0) (pieceR h).toLoadRect (View.loadsAt_vmem h_S1x384x256))
  let y ← Prog.lift (.load (inB 2) (pieceR h).toLoadRect (View.loadsAt_vmem h_S1x384x256))
  let _ ← Prog.lift (.load oM (colO h).toLoadRect (View.loadsAt_vmem h_S384x256))
  Prog.lift (.store oM (colO h) (addf (addf (prodF (F := F) a b) (dequantF (ofPiece (F := F) x))) (dequantF (ofPiece (F := F) y))) Finset.univ
    (View.stores_vmem_bits_univ h_S384x256 rfl) (.inl rfl))

/-- A step for each piece, in order. -/
def eachPiece (f : Fin 6 → P F PUnit) : P F PUnit := do f 0; f 1; f 2; f 3; f 4; f 5

/-- The whole body of device `c`. -/
def steps (c : Dev nD) : P F PUnit := do
  meet c
  eachPiece (diagStep c)
  eachPiece (midStep c)
  eachPiece (finStep c)
  eachPiece (sendWait 1)
  eachPiece (sendWait 0)
  eachPiece (sendWait 2)

/-- The printed kernel function is that sequence of steps, on the device that runs it. -/
theorem body_steps :
    cc0_body (F := F) aM (Memref.isWhole_whole _) bM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11
      = (Prog.lift .deviceId >>= fun c => steps c) := by
  rfl

end Cert.Relay

end
-- ==== Proof.Slots.lean ====
/-
  A piece of a piece buffer as a thing to own.

  `holds c M h X`: device `c` owns piece `h` of its piece buffer `M`, and it reads `X` there, as a matrix. The kernel's loads
  read a piece through the rectangle `pieceR h` of the buffer, its stores write it there, and its remote copies go
  through the matrix `pieceM`; here the three are related, and a whole buffer is split into its six pieces and joined again.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ViewIndex
public import Idealize.ShloMosaic.Lib.Tactic

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's bookkeeping, and this kernel's (a duty of a cell is named by a truth value). -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Reading and writing a piece -/

variable (M : Memref sig .tc .vmem S6x384x256 .i8) (h : Fin 6)

omit [FloatOps F] in
theorem piece_unit : ∀ a, (pieceR h).stride a = 1 := fun _ => rfl

omit [FloatOps F] in
/-- The elements of the piece's matrix are those under the piece's rectangle. -/
theorem piece_set : (pieceM M h).view.set = (M.view.slice (pieceR h)).set := View.set_reshape _ _

omit [FloatOps F] in
/-- The elements a load of the piece touches are the matrix's. -/
theorem load_sub : M.view.setOn (pieceR h).toLoadRect.set ⊆ (pieceM M h).view.set :=
  le_of_eq ((View.set_slice M.view (pieceR h)).symm.trans (piece_set M h).symm)

omit [FloatOps F] in
/-- The elements a store of the piece touches are the matrix's. -/
theorem store_sub : (M.access (pieceR h)).setOn Finset.univ ⊆ (pieceM M h).view.set :=
  le_of_eq (piece_set M h).symm

omit [FloatOps F] in
/-- What a load of the piece reads, as a matrix. -/
theorem load_piece (f : M.view.ty.Contents (Elt F)) :
    ofPiece (F := F) (M.view.readAt (Elt F) (pieceR h).toLoadRect f) = (pieceM M h).view.read (Elt F) f := rfl

omit [FloatOps F] in
/-- After a matrix has been stored to the piece, the matrix reads back. -/
theorem store_piece (f : M.view.ty.Contents (Elt F)) (q : IVec S384x256 8) :
    (pieceM M h).view.read (Elt F) ((M.access (pieceR h)).write (Elt F) f (toPiece q) Finset.univ) = q := by
  funext j
  have e := View.read_write_of_mem (Val := Elt F) (v := M.access (pieceR h)) f (toPiece q)
    (Finset.mem_univ (Shape.reshapeEquiv squeezes_S1x384x256_S384x256.numel_eq j))
  refine Eq.trans ?_ (e.trans ?_)
  · rfl
  · exact congrFun (shapeCast_shapeCast q shapeCasts_S384x256_S1x384x256 shapeCasts_S1x384x256_S384x256) j

/-! ## Owning a piece -/

/-- Device `c` owns piece `h` of `M` at `X`. -/
def holds (c : Dev nD) (X : IVec S384x256 8) : sProp 𝕄 :=
  owns (Val := Elt F) (c : Thread nD τ) (pieceM M h) fullShare X
/-- Device `c` owns piece `h` of `M`. -/
def holdsAny (c : Dev nD) : sProp 𝕄 := iprop(∃ X, holds M h c X)

omit [FloatOps F] in
instance holds_storable (c : Dev nD) (X) : BI.Storable (upEmb : UEmb _ 𝕄) (holds (F := F) M h c X) := by
  unfold holds; infer_instance
omit [FloatOps F] in
instance holdsAny_storable (c : Dev nD) : BI.Storable (upEmb : UEmb _ 𝕄) (holdsAny (F := F) M h c) := by
  unfold holdsAny; infer_instance

/-! ## A buffer and its pieces -/

/-- The six pieces have no element in common, -/
theorem piece_disj : ∀ t t' : Fin 6, t ≠ t' → Disjoint (pieceR t).set (pieceR t').set := by
  intro t t' hn
  rw [Finset.disjoint_left]
  intro i hi hi'
  have e := (Rect.mem_set_unit.mp hi) 0
  have e' := (Rect.mem_set_unit.mp hi') 0
  apply hn
  apply Fin.ext
  have h1 : t.val ≤ (i 0).val ∧ (i 0).val < t.val + 1 := e
  have h2 : t'.val ≤ (i 0).val ∧ (i 0).val < t'.val + 1 := e'
  omega

/-- and every element of the buffer is in one. -/
theorem piece_cover : (Finset.univ : Finset (Fin 6)).biUnion (fun t => (pieceR t).set) = Finset.univ := by
  refine Finset.eq_univ_of_forall fun i => Finset.mem_biUnion.mpr ⟨i 0, Finset.mem_univ _, Rect.mem_set_unit.mpr fun a => ?_⟩
  fin_cases a
  · exact ⟨le_rfl, Nat.lt_succ_self _⟩
  · exact ⟨Nat.zero_le _, by have := (i 1).isLt; exact this⟩
  · exact ⟨Nat.zero_le _, by have := (i 2).isLt; exact this⟩

omit [FloatOps F] in
/-- Owning the piece through its rectangle is owning it as a matrix. -/
theorem holds_of_slice (c : Dev nD) (X : S1x384x256.Idx → Elt F .i8) :
    (owns (c : Thread nD τ) (M.slice (pieceR h) (piece_unit h)) fullShare X : sProp 𝕄) ⊢ holds M h c (ofPiece (F := F) X) := by
  unfold holds owns
  iintro ⟨%f, %hf, H⟩
  iexists f
  isplitr
  · ipureintro
    rw [← hf]; rfl
  · iapply (Entails.of_eq (congrArg (fun S => ((pieceM M h).view.loc (c : Thread nD τ) ↦[S]{fullShare} f : sProp 𝕄)) (piece_set M h)).symm)
    iexact H

omit [FloatOps F] in
theorem slice_of_holds (c : Dev nD) (X : IVec S384x256 8) :
    (holds M h c X : sProp 𝕄) ⊢ owns (Val := Elt F) (c : Thread nD τ) (M.slice (pieceR h) (piece_unit h)) fullShare (toPiece X) := by
  unfold holds owns
  iintro ⟨%f, %hf, H⟩
  iexists f
  isplitr
  · ipureintro
    rw [← hf]
    exact (shapeCast_shapeCast _ shapeCasts_S1x384x256_S384x256 shapeCasts_S384x256_S1x384x256).symm
  · iapply (Entails.of_eq (congrArg (fun S => ((pieceM M h).view.loc (c : Thread nD τ) ↦[S]{fullShare} f : sProp 𝕄)) (piece_set M h)))
    iexact H

omit [FloatOps F] in
/-- A buffer owned is its six pieces owned, -/
theorem split_pieces (c : Dev nD) (X : S6x384x256.Idx → Elt F .i8) :
    (owns (c : Thread nD τ) M fullShare X : sProp 𝕄) ⊢ bigSep Finset.univ fun h => holdsAny M h c :=
  (owns_rects (c : Thread nD τ) M fullShare pieceR piece_unit piece_disj piece_cover X).trans
    (bigSep_mono fun h _ => (holds_of_slice M h c _).trans (by
      unfold holdsAny; iintro H; iexists _; iexact H))

/-- Where an element of a buffer lies in its piece. -/
def inPiece (i : S6x384x256.Idx) : S1x384x256.Idx := fun
  | ⟨0, _⟩ => (0 : Fin 1) | ⟨1, _⟩ => (i 1 : Fin 384) | ⟨2, _⟩ => (i 2 : Fin 256)

/-- A buffer from its six pieces. -/
def joined (G : Fin 6 → IVec S384x256 8) (i : S6x384x256.Idx) : BitVec 8 := toPiece (G (i 0)) (inPiece i)

/-- and back. -/
theorem join_pieces (c : Dev nD) :
    (bigSep Finset.univ fun h => holdsAny M h c : sProp 𝕄) ⊢ iprop(∃ X, owns (Val := Elt F) (c : Thread nD τ) M fullShare X) := by
  unfold holdsAny
  refine (BI.bigSep_exists_pi Finset.univ (fun (h : Fin 6) (X : IVec S384x256 8) => (holds M h c X : sProp 𝕄))).trans ?_
  iintro ⟨%G, H⟩
  iexists (joined G)
  have hj := owns_of_rects (Val := Elt F) (Ix := Unit) (Name := ℕ) (U := UU) (Lvl := ℕ) (c : Thread nD τ) M fullShare pieceR piece_unit piece_disj
    piece_cover (joined G)
  iapply hj
  have hm : (bigSep Finset.univ fun h : Fin 6 => (holds M h c (G h) : sProp 𝕄))
      ⊢ bigSep Finset.univ fun h : Fin 6 => owns (Val := Elt F) (c : Thread nD τ) (M.slice (pieceR h) (piece_unit h)) fullShare
          (fun j => joined G ((pieceR h).emb j)) :=
    bigSep_mono fun h _ => (slice_of_holds M h c (G h)).trans (Entails.of_eq (congrArg
      (fun X => owns (Val := Elt F) (c : Thread nD τ) (M.slice (pieceR h) (piece_unit h)) fullShare X) (funext fun j => by
      have hj : (pieceR h).emb j 0 = h := Fin.ext (by
        have : (j 0).val < 1 := (j 0).isLt
        show h.val + 1 * (j 0).val = h.val
        omega)
      show _ = toPiece (G _) _
      rw [hj]
      refine congrArg (toPiece (G h)) (funext fun a => ?_)
      fin_cases a
      · exact Fin.ext (by have : (j 0).val < 1 := (j 0).isLt; show (j 0).val = 0; omega)
      · exact Fin.ext (by show (j 1).val = 0 + 1 * (j 1).val; omega)
      · exact Fin.ext (by show (j 2).val = 0 + 1 * (j 2).val; omega))))
  iapply hm
  iexact H

end Cert.Relay

end
-- ==== Proof.Schedule.lean ====
/-
  Who sends what to whom, and in which order.

  Device `c` has 37 semaphores of its own in play: the runtime's barrier semaphore, and for each of the 18 messages (three
  kinds, six pieces) one that counts the departure and one that counts the arrival. Each is used for one round.

  * The barrier semaphore is raised by either neighbour; a neighbour's unit hands over those of ITS arrival buffers that
    `c` will write.
  * An arrival hands over the arrival buffer, holding the message (`recd`).
  * A departure hands the sent buffer back.

  A device owes its neighbours two barrier units and 18 arrivals, and pays them in the order of `order`. Waits are
  ordered by levels: barrier (1), arrivals at the relay (2), other arrivals (3); a device waits only while everything that it
  still owes is above.
-/
module

public import proofs.«01_k».proof.Proof.Slots

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Neighbours -/

/-- The device after `c`, -/
def nxt : Dev nD → Dev nD | 0 => 1 | 1 => 2 | 2 => 3 | 3 => 0
/-- and the device before. -/
def prv : Dev nD → Dev nD | 0 => 3 | 1 => 0 | 2 => 1 | 3 => 2

/-- `true`: the next device; `false`: the previous one. -/
def side (d : Bool) (c : Dev nD) : Dev nD := if d then nxt c else prv c

theorem side_side (d : Bool) (c : Dev nD) : side d (side (!d) c) = c := by revert d c; decide
theorem side_side' (d : Bool) (c : Dev nD) : side (!d) (side d c) = c := by revert d c; decide

/-- A neighbour, as a rearrangement of the devices. -/
def ring (d : Bool) : Dev nD ≃ Dev nD := ⟨side d, side (!d), side_side' d, side_side d⟩

/-- Whether a message of kind `k` and piece `h` travels to the next device. -/
def up (k : Fin 3) (h : Fin 6) : Bool := decide (k = 0) == decide (h.val % 2 = 0)

/-- Where the message goes, -/
def tgt (k : Fin 3) (h : Fin 6) (c : Dev nD) : Dev nD := side (up k h) c
/-- and where it comes from. -/
def src (k : Fin 3) (h : Fin 6) (c : Dev nD) : Dev nD := side (!up k h) c

theorem tgt_src (k : Fin 3) (h : Fin 6) (c : Dev nD) : tgt k h (src k h c) = c := side_side _ _
theorem src_tgt (k : Fin 3) (h : Fin 6) (c : Dev nD) : src k h (tgt k h c) = c := side_side' _ _

theorem dev1_eq (c : Dev nD) : (⟨k0_dev1 c, k0_dev1_lt c⟩ : Dev nD) = side true c := by
  refine Fin.ext ((k0_dev1_eq c).trans ?_); revert c; decide
theorem dev2_eq (c : Dev nD) : (⟨k0_dev2 c, k0_dev2_lt c⟩ : Dev nD) = side false c := by
  refine Fin.ext ((k0_dev2_eq c).trans ?_); revert c; decide

theorem diagDev_eq (c : Dev nD) (h : Fin 6) : diagDev c h = tgt 1 h c := by
  apply Fin.ext
  fin_cases h
  · refine (k0_dev3_eq c).trans ?_; revert c; decide
  · refine (k0_dev4_eq c).trans ?_; revert c; decide
  · refine (k0_dev5_eq c).trans ?_; revert c; decide
  · refine (k0_dev6_eq c).trans ?_; revert c; decide
  · refine (k0_dev7_eq c).trans ?_; revert c; decide
  · refine (k0_dev8_eq c).trans ?_; revert c; decide
theorem dirDev_eq (c : Dev nD) (h : Fin 6) : dirDev c h = tgt 0 h c := by
  apply Fin.ext
  fin_cases h
  · refine (k0_dev9_eq c).trans ?_; revert c; decide
  · refine (k0_dev11_eq c).trans ?_; revert c; decide
  · refine (k0_dev13_eq c).trans ?_; revert c; decide
  · refine (k0_dev15_eq c).trans ?_; revert c; decide
  · refine (k0_dev17_eq c).trans ?_; revert c; decide
  · refine (k0_dev19_eq c).trans ?_; revert c; decide
theorem combDev_eq (c : Dev nD) (h : Fin 6) : combDev c h = tgt 2 h c := by
  apply Fin.ext
  fin_cases h
  · refine (k0_dev10_eq c).trans ?_; revert c; decide
  · refine (k0_dev12_eq c).trans ?_; revert c; decide
  · refine (k0_dev14_eq c).trans ?_; revert c; decide
  · refine (k0_dev16_eq c).trans ?_; revert c; decide
  · refine (k0_dev18_eq c).trans ?_; revert c; decide
  · refine (k0_dev20_eq c).trans ?_; revert c; decide

/-! ## Messages -/

/-- The devices' blocks of `A` and of `B`, as staged. -/
structure Ins (F : FTy → Type) where
  a : Dev nD → (cc0_stg0_0 : Ref sig .tc).ty.Contents (Elt F)
  b : Dev nD → (cc0_stg1_0 : Ref sig .tc).ty.Contents (Elt F)

variable (X : Ins F)

/-- Device `c`'s partial product, piece `h`, for the rows of the device that is `r + 1` devices further on, -/
def part (c : Dev nD) (r : Fin 3) (h : Fin 6) : FVec F S384x256 .f32 :=
  prodF (aM.view.readAt (Elt F) (rowsAt c r).toLoadRect (X.a c)) (bM.view.readAt (Elt F) (colB h).toLoadRect (X.b c))
/-- and that for its own rows. -/
def own (c : Dev nD) (h : Fin 6) : FVec F S384x256 .f32 :=
  prodF (aM.view.readAt (Elt F) (rowsOwn c).toLoadRect (X.a c)) (bM.view.readAt (Elt F) (colB h).toLoadRect (X.b c))

/-- What device `c` sends directly, -/
def sent0 (c : Dev nD) (h : Fin 6) : IVec S384x256 8 := quantF (part X c (fwd h) h)
/-- what it sends to be relayed, -/
def sent1 (c : Dev nD) (h : Fin 6) : IVec S384x256 8 := quantF (part X c 1 h)
/-- and what it relays. -/
def sent2 (c : Dev nD) (h : Fin 6) : IVec S384x256 8 :=
  quantF (addf (dequantF (sent1 X (src 1 h c) h)) (part X c (bwd h) h))

/-- The message of kind `k`, piece `h`, that device `c` sends, -/
def sent (c : Dev nD) : Fin 3 → Fin 6 → IVec S384x256 8 | 0 => sent0 X c | 1 => sent1 X c | 2 => sent2 X c
/-- and the one that it receives. -/
def recd (c : Dev nD) (k : Fin 3) (h : Fin 6) : IVec S384x256 8 := sent X (src k h c) k h

/-- Piece `h` of device `c`'s block of the result. -/
def outPiece (c : Dev nD) (h : Fin 6) : FVec F S384x256 .f32 :=
  addf (addf (own X c h) (dequantF (recd X c 0 h))) (dequantF (recd X c 2 h))

/-! ## Semaphores -/

/-- A message's semaphore: `false`, its departure; `true`, its arrival. -/
abbrev Msg : Type := Bool × Fin 3 × Fin 6
/-- The barrier semaphore, or a message's. -/
abbrev Kd : Type := Unit ⊕ Msg

def msem : Msg → SemLoc sig
  | (false, k, h) => .dma (semAt (sendA k) h)
  | (true, k, h) => .dma (semAt (recvA k) h)
def csem : Kd → SemLoc sig
  | .inl _ => .reg barS
  | .inr x => msem x

/-- Which of a device's semaphores it is. -/
def kindOf : SemLoc sig → Option Kd
  | .reg s => if s = barS then some (.inl ()) else none
  | .dma i => if i.val < 3 then none else
      some (.inr (decide (21 ≤ i.val), ⟨(i.val - 3) / 6 % 3, Nat.mod_lt _ (by decide)⟩, ⟨(i.val - 3) % 6, Nat.mod_lt _ (by decide)⟩))

theorem kindOf_csem (k : Kd) : kindOf (csem k) = some k := by
  revert k; decide
theorem kindOf_bar : kindOf (.reg barS) = some (.inl ()) := kindOf_csem (.inl ())
theorem kindOf_msem (x : Msg) : kindOf (msem x) = some (.inr x) := kindOf_csem (.inr x)
theorem csem_injective : Function.Injective csem := fun a b e => by
  have := congrArg kindOf e
  rw [kindOf_csem, kindOf_csem] at this
  exact Option.some.inj this

abbrev cell (c : Dev nD) (k : Kd) : GSem nD τ sig := ((c : Thread nD τ), csem k)
abbrev barCell (c : Dev nD) : GSem nD τ sig := ((c : Thread nD τ), .reg barS)
abbrev msgCell (c : Dev nD) (x : Msg) : GSem nD τ sig := ((c : Thread nD τ), msem x)

theorem cell_inj {c c' : Dev nD} {k k' : Kd} (e : cell c k = cell c' k') : c = c' ∧ k = k' :=
  ⟨congrArg (fun g : GSem nD τ sig => g.1.1) e, csem_injective (congrArg Prod.snd e)⟩

/-- What the copy of a piece counts. -/
def N : ℕ := (pieceM (inB 0) 0).view.dmaCredit
theorem N_pos : 0 < N := View.dmaCredit_pos _ (by decide)
theorem N_in (k : Fin 3) (h : Fin 6) : (pieceM (inB k) h).view.dmaCredit = N := by
  fin_cases k <;> rfl
theorem N_out (k : Fin 3) (h : Fin 6) : (pieceM (outB k) h).view.dmaCredit = N := by
  fin_cases k <;> rfl

/-! ## The schedule -/

/-- What a neighbour's barrier unit hands device `c`: the neighbour's arrival buffers that `c` writes. -/
def barPay (c : Dev nD) (d : Bool) : sProp 𝕄 :=
  bigSep (Finset.univ.filter fun x : Fin 3 × Fin 6 => up x.1 x.2 = d) fun x => holdsAny (inB x.1) x.2 (side d c)

def payOf (c : Dev nD) (d : Bool) : Option Kd → sProp 𝕄
  | some (.inl _) => barPay c d
  | some (.inr (true, k, h)) => holds (inB k) h c (recd X c k h)
  | some (.inr (false, k, h)) => holdsAny (outB k) h c
  | none => iprop(emp)

omit [FloatOps F] in
instance barPay_storable (c : Dev nD) (d : Bool) : BI.Storable (upEmb : UEmb _ 𝕄) (barPay (F := F) c d) := by
  unfold barPay; infer_instance
instance payOf_storable (c : Dev nD) (d : Bool) (o : Option Kd) : BI.Storable (upEmb : UEmb _ 𝕄) (payOf X c d o) := by
  rcases o with _ | _ | ⟨_ | _, k, h⟩ <;> unfold payOf <;> infer_instance

def dutiesOf : Option Kd → Finset Bool
  | some (.inl _) => Finset.univ
  | some (.inr _) => {false}
  | none => ∅
def amountOf : Option Kd → ℕ
  | some (.inl _) => 1
  | _ => N

def Rd : Rounds.Schedule (GSem nD τ sig) Bool 𝕄 where
  duties g r := if r = 0 ∧ g.1.2 = .tc then dutiesOf (kindOf g.2) else ∅
  unitless _ := False
  amount g _ _ := amountOf (kindOf g.2)
  payload g _ d := payOf X g.1.1 d (kindOf g.2)
  amount_pos g _ _ _ := by
    rcases kindOf g.2 with _ | _ | _
    · exact N_pos
    · exact Nat.one_pos
    · exact N_pos

instance Rd_payload_storable (g : GSem nD τ sig) (r : ℕ) (d : Bool) : BI.Storable (upEmb : UEmb _ 𝕄) ((Rd X).payload g r d) :=
  payOf_storable X g.1.1 d (kindOf g.2)

section Sched
variable (c : Dev nD) (x : Msg)

theorem duties_bar : (Rd X).duties (barCell c) 0 = Finset.univ := by
  show (if (0 : ℕ) = 0 ∧ (barCell c).1.2 = .tc then dutiesOf (kindOf (.reg barS)) else ∅) = _
  rw [if_pos ⟨rfl, rfl⟩, kindOf_bar]; rfl
theorem duties_msg : (Rd X).duties (msgCell c x) 0 = {false} := by
  show (if (0 : ℕ) = 0 ∧ (msgCell c x).1.2 = .tc then dutiesOf (kindOf (msem x)) else ∅) = _
  rw [if_pos ⟨rfl, rfl⟩, kindOf_msem]; rfl
theorem duties_later (g : GSem nD τ sig) : ∀ r, 1 ≤ r → (Rd X).duties g r = ∅ := fun r hr =>
  if_neg fun e => absurd e.1 (by omega)

theorem amount_bar (d : Bool) : (Rd X).amount (barCell c) 0 d = 1 := by
  show amountOf (kindOf (.reg barS)) = 1
  rw [kindOf_bar]; rfl
theorem amount_msg (d : Bool) : (Rd X).amount (msgCell c x) 0 d = N := by
  show amountOf (kindOf (msem x)) = N
  rw [kindOf_msem]; rfl

theorem expect_bar : (Rd X).expect (barCell c) 0 = 2 := by
  unfold Schedule.expect Schedule.amountOf
  rw [duties_bar, Finset.sum_congr rfl fun d _ => amount_bar X c d]; rfl
theorem expect_msg : (Rd X).expect (msgCell c x) 0 = N := by
  unfold Schedule.expect Schedule.amountOf
  rw [duties_msg, Finset.sum_singleton, amount_msg]

theorem payload_bar (d : Bool) : (Rd X).payload (barCell c) 0 d = barPay c d := by
  show payOf X c d (kindOf (.reg barS)) = _
  rw [kindOf_bar]; rfl
theorem payload_send (d : Bool) (k : Fin 3) (h : Fin 6) : (Rd X).payload (msgCell c (false, k, h)) 0 d = holdsAny (outB k) h c := by
  show payOf X c d (kindOf (msem (false, k, h))) = _
  rw [kindOf_msem]; rfl
theorem payload_recv (d : Bool) (k : Fin 3) (h : Fin 6) :
    (Rd X).payload (msgCell c (true, k, h)) 0 d = holds (inB k) h c (recd X c k h) := by
  show payOf X c d (kindOf (msem (true, k, h))) = _
  rw [kindOf_msem]; rfl

/-- A whole round of the barrier semaphore, -/
theorem rest_bar : bigSep ((Rd X).duties (barCell c) 0 \ ∅) (fun d => (Rd X).payload (barCell c) 0 d)
    = iprop(barPay c false ∗ barPay c true) := by
  rw [Finset.sdiff_empty, duties_bar, bigSep_univ_eq_bigSepL [false, true] (by decide) (by decide), bigSepL_cons_cons,
    bigSepL_singleton, payload_bar, payload_bar]
  rfl
/-- of a message's. -/
theorem rest_msg : bigSep ((Rd X).duties (msgCell c x) 0 \ ∅) (fun d => (Rd X).payload (msgCell c x) 0 d)
    = (Rd X).payload (msgCell c x) 0 false := by
  rw [Finset.sdiff_empty, duties_msg, bigSep_singleton]

end Sched

/-! ## What is owed -/

/-- The order in which a device sends its messages. -/
def order : List (Fin 3 × Fin 6) :=
  [(1, 0), (1, 1), (1, 2), (1, 3), (1, 4), (1, 5),
   (0, 0), (2, 0), (0, 1), (2, 1), (0, 2), (2, 2), (0, 3), (2, 3), (0, 4), (2, 4), (0, 5), (2, 5)]

/-- The arrivals that a device owes for a list of messages, -/
def dueL (c : Dev nD) : List (Fin 3 × Fin 6) → CellTallies nD τ sig Unit
  | [] => 0
  | x :: l => dueL c l + tallyAt (msgCell (tgt x.1 x.2 c) (true, x)) () N
/-- and when it has sent `n` of them. -/
def due (c : Dev nD) (n : ℕ) : CellTallies nD τ sig Unit := dueL c (order.drop n)
/-- When it has made its first barrier signal, -/
def O₁ (c : Dev nD) : CellTallies nD τ sig Unit := due c 0 + tallyAt (barCell (side false c)) () 1
/-- and at launch. -/
def O₀ (c : Dev nD) : CellTallies nD τ sig Unit := O₁ c + tallyAt (barCell (side true c)) () 1

def L (g : GSem nD τ sig) : Finset Unit := if g.1.2 = .tc then {()} else ∅
def lvOf : Option Kd → ℕ
  | some (.inl _) => 1
  | some (.inr (true, k, _)) => if k = 1 then 2 else 3
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  show lvOf (kindOf (.reg barS)) = 1; rw [kindOf_bar]; rfl
theorem lv_msg (c : Dev nD) (x : Msg) : lv (msgCell c x) () = lvOf (some (.inr x)) := by
  show lvOf (kindOf (msem x)) = _; rw [kindOf_msem]

theorem tallyAt_pos' {g g' : GSem nD τ sig} {n : ℕ} {u : Unit} (h : 0 < tallyAt g () n g' u) : g' = g := by
  rw [tallyAt_apply] at h
  by_contra hn
  rw [if_neg (fun e => hn e.1)] at h
  exact Nat.lt_irrefl 0 h

theorem dueL_pos {c : Dev nD} {l : List (Fin 3 × Fin 6)} {g : GSem nD τ sig} {u : Unit} (h : 0 < dueL c l g u) :
    ∃ x ∈ l, g = msgCell (tgt x.1 x.2 c) (true, x) := by
  induction l with
  | nil => exact absurd h (Nat.lt_irrefl 0)
  | cons x l ih =>
    rw [dueL, Pi.add_apply, Finsupp.add_apply] at h
    rcases Nat.add_pos_iff_pos_or_pos.mp h with h | h
    · obtain ⟨y, hy, e⟩ := ih h
      exact ⟨y, List.mem_cons_of_mem _ hy, e⟩
    · exact ⟨x, List.mem_cons_self, tallyAt_pos' h⟩

theorem O₀_pos {c : Dev nD} {g : GSem nD τ sig} {u : Unit} (h : 0 < O₀ c g u) : g.1.2 = .tc ∧ 0 < lv g () := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨x, -, rfl⟩ := dueL_pos h
      refine ⟨rfl, ?_⟩
      rw [lv_msg]
      unfold lvOf; dsimp only; split <;> decide
    · rw [tallyAt_pos' h]; exact ⟨rfl, by rw [lv_bar]; decide⟩
  · rw [tallyAt_pos' h]; exact ⟨rfl, by rw [lv_bar]; decide⟩

omit [FloatOps F] in
/-- A wait below everything that is owed. -/
theorem mayWait_below (c : Dev nD) (sm : SemLoc sig) (n : ℕ) (hn : lvOf (kindOf sm) ≤ n) (O : CellTallies nD τ sig Unit)
    (hO : ∀ g u, 0 < O g u → g.1.2 = .tc ∧ n < lv g ()) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by
      show u ∈ L g
      rw [L, if_pos (hO g u hg).1]; exact Finset.mem_singleton_self _)
    (fun p hp => by rw [Finset.mem_singleton.mp hp]; exact hn)
    (fun g u hg => (hO g u hg).2)

omit [FloatOps F] in
theorem mayWait_none (c : Dev nD) (sm : SemLoc sig) : (levAts L lv : sProp 𝕄) ⊢ MayWait (c : Thread nD τ) sm () 0 := by
  rw [MayWait_zero]; iintro -; iempintro

omit [FloatOps F] in
/-- The pipeline's own waits, before the body and after. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_below c (.dma q) 0 ?_ _ (fun g u h => O₀_pos h)
    unfold kindOf; dsimp only; rw [if_pos hq]; exact le_rfl
  · exact mayWait_none c _

omit [FloatOps F] in
/-- The wait for the neighbours' barrier units, every message still owed. -/
theorem mayWait_bar (c : Dev nD) : (levAts L lv : sProp 𝕄) ⊢ MayWait (c : Thread nD τ) (.reg barS) () (due c 0) :=
  mayWait_below c _ 1 (by rw [kindOf_bar]; exact le_rfl) _ fun g u h => by
    obtain ⟨x, -, rfl⟩ := dueL_pos h
    refine ⟨rfl, ?_⟩
    rw [lv_msg]
    unfold lvOf; dsimp only; split <;> decide

theorem order_later : ∀ h : Fin 6, ∀ x ∈ order.drop (7 + 2 * h.val), x.1 ≠ 1 := by decide

omit [FloatOps F] in
/-- The wait for the piece to relay, when all of the first kind have been sent. -/
theorem mayWait_relay (c : Dev nD) (h : Fin 6) :
    (levAts L lv : sProp 𝕄) ⊢ MayWait (c : Thread nD τ) (msem (true, 1, h)) () (due c (7 + 2 * h.val)) :=
  mayWait_below c _ 2 (by rw [kindOf_msem]; exact le_rfl) _ fun g u hg => by
    obtain ⟨x, hx, rfl⟩ := dueL_pos hg
    refine ⟨rfl, ?_⟩
    rw [lv_msg]
    unfold lvOf; dsimp only; rw [if_neg (order_later h x hx)]; decide

theorem due_diag (c : Dev nD) (h : Fin 6) :
    due c h.val = due c (h.val + 1) + tallyAt (msgCell (tgt 1 h c) (true, 1, h)) () N := by
  fin_cases h <;> rfl
theorem due_dir (c : Dev nD) (h : Fin 6) :
    due c (6 + 2 * h.val) = due c (7 + 2 * h.val) + tallyAt (msgCell (tgt 0 h c) (true, 0, h)) () N := by
  fin_cases h <;> rfl
theorem due_comb (c : Dev nD) (h : Fin 6) :
    due c (7 + 2 * h.val) = due c (6 + 2 * (h.val + 1)) + tallyAt (msgCell (tgt 2 h c) (true, 2, h)) () N := by
  fin_cases h <;> rfl
theorem due_end (c : Dev nD) : due c 18 = 0 := rfl

end Cert.Relay

end
-- ==== Proof.Rules.lean ====
/-
  What each step of the kernel does, for any piece.

  Every theorem here runs one step on device `c` from what the step needs — the permission to pay (tokens), buffers, what is
  owed — and continues with what it leaves.
-/
module

public import proofs.«01_k».proof.Proof.Schedule

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Ins F) (K : Dev nD × Kd → ℕ)

abbrev 𝒱₀ : Variants := Variants.none

/-- `p` runs on device `c` to `Q`. -/
abbrev Runs (c : Dev nD) (p : P F PUnit) (Q : PUnit → sProp 𝕄) : sProp 𝕄 :=
  wp frame (wpE (defs₀ (F := F)) 𝒱₀ (c : Thread nD τ) none) Set.univ p Q

/-- What every device knows: the semaphores' protocols, that each is at its first round, and the levels. -/
def know : sProp 𝕄 :=
  iprop((bigSep Finset.univ fun ck : Dev nD × Kd => cellInv ER (Rd X) (K ck) (cell ck.1 ck.2))
    ∗ (bigSep Finset.univ fun ck : Dev nD × Kd => reached ER (cell ck.1 ck.2) 0) ∗ levAts L lv)

instance know_persistent : BI.Persistent (know X K) := by unfold know; infer_instance

theorem know_inv (c : Dev nD) (k : Kd) : know X K ⊢ cellInv ER (Rd X) (K (c, k)) (cell c k) := by
  refine BIBase.Entails.trans ?_ (bigSep_elim (Φ := fun ck : Dev nD × Kd => (cellInv ER (Rd X) (K ck) (cell ck.1 ck.2) : sProp 𝕄)) (Finset.mem_univ (c, k)))
  unfold know
  iintro ⟨H, -, -⟩
  iexact H
theorem know_reached (c : Dev nD) (k : Kd) : know X K ⊢ reached ER (cell c k) 0 := by
  refine BIBase.Entails.trans ?_ (bigSep_elim (Φ := fun ck : Dev nD × Kd => (reached ER (cell ck.1 ck.2) 0 : sProp 𝕄)) (Finset.mem_univ (c, k)))
  unfold know
  iintro ⟨-, H, -⟩
  iexact H
theorem know_levels : know X K ⊢ levAts L lv := by
  unfold know
  iintro ⟨-, -, H⟩
  iexact H

/-- Device `c` owes `O`. -/
def owing (c : Dev nD) (O : CellTallies nD τ sig Unit) : sProp 𝕄 := iprop(∃ W, owes (c : Thread nD τ) O W)

/-- A piece's elements, as elements of the device's buffer. -/
def pieceS (M : Memref sig .tc .vmem S6x384x256 .i8) (h : Fin 6) (c : Dev nD) : Finset (Idx (M.view.loc (c : Thread nD τ))) :=
  (pieceM M h).view.set

omit [FloatOps F] in
theorem piece_pts (M : Memref sig .tc .vmem S6x384x256 .i8) (h : Fin 6) (c : Dev nD) (f : Buf (Elt F) (M.view.loc (c : Thread nD τ))) :
    ((pieceM M h).view.loc (c : Thread nD τ) ↦[(pieceM M h).view.set]{fullShare} f : sProp 𝕄)
      = (M.view.loc (c : Thread nD τ) ↦[pieceS M h c]{fullShare} f) := rfl

omit [FloatOps F] in
/-- An owned piece, as elements of the device's buffer. -/
theorem holds_open (M : Memref sig .tc .vmem S6x384x256 .i8) (h : Fin 6) (c : Dev nD) (q : IVec S384x256 8) :
    (holds M h c q : sProp 𝕄) ⊢ iprop(∃ f : Buf (Elt F) (M.view.loc (c : Thread nD τ)),
      ⌜ofPiece (F := F) (M.view.readAt (Elt F) (pieceR h).toLoadRect f) = q⌝ ∗ (M.view.loc (c : Thread nD τ) ↦[pieceS M h c]{fullShare} f)) := by
  unfold holds owns
  iintro ⟨%f, %hf, H⟩
  iexists f
  isplitr
  · ipureintro; exact hf
  · iapply (Entails.of_eq (piece_pts M h c f)); iexact H

omit [FloatOps F] in
theorem holds_close (M : Memref sig .tc .vmem S6x384x256 .i8) (h : Fin 6) (c : Dev nD) (q : IVec S384x256 8)
    (f : Buf (Elt F) (M.view.loc (c : Thread nD τ))) (hf : ofPiece (F := F) (M.view.readAt (Elt F) (pieceR h).toLoadRect f) = q) :
    (M.view.loc (c : Thread nD τ) ↦[pieceS M h c]{fullShare} f : sProp 𝕄) ⊢ holds M h c q := by
  unfold holds owns
  iintro H
  iexists f
  isplitr
  · ipureintro; exact hf
  · iapply (Entails.of_eq (piece_pts M h c f).symm); iexact H

section Steps

variable (c : Dev nD) (k : Fin 3) (h : Fin 6)

/-- What it takes to send a message: the two buffers and the permission to pay its departure and arrival. -/
def sendTok : sProp 𝕄 :=
  iprop(holdsAny (outB k) h c ∗ holdsAny (inB k) h (tgt k h c)
    ∗ dutyTok ER (msgCell c (false, k, h)) 0 false ∗ dutyTok ER (msgCell (tgt k h c) (true, k, h)) 0 false)
/-- The right to wait for a message's departure, once sent, -/
def leftTok : sProp 𝕄 := cred (tallyAt (msgCell c (false, k, h)) () N)
/-- and for its arrival. -/
def recvTok : sProp 𝕄 := iprop(atPos ER (msgCell c (true, k, h)) 0 ∅ 0 ∗ cred (tallyAt (msgCell c (true, k, h)) () N))
/-- After the arrival: the semaphore is spent and the buffer holds the message. -/
def recvDone : sProp 𝕄 := iprop(semVal (msgCell c (true, k, h)) 0 ∗ holds (inB k) h c (recd X c k h))
/-- After the departure: the semaphore is spent and the buffer is back. -/
def leftDone : sProp 𝕄 := iprop(semVal (msgCell c (false, k, h)) 0 ∗ holdsAny (outB k) h c)

theorem hd₁ (x : Msg) : false ∈ (Rd X).duties (msgCell c x) 0 := by
  rw [duties_msg]; exact Finset.mem_singleton_self _

/-- The sent buffer, as what its departure hands back, -/
theorem left_pay (f : Buf (Elt F) ((pieceM (outB k) h).view.loc (c : Thread nD τ))) :
    ((pieceM (outB k) h).view.loc (c : Thread nD τ) ↦[(pieceM (outB k) h).view.set]{fullShare} f : sProp 𝕄)
      ⊢ (Rd X).payload (msgCell c (false, k, h)) 0 false := by
  rw [payload_send]
  unfold holdsAny holds
  iintro H
  iexists _
  iapply (owns_intro (c : Thread nD τ) (pieceM (outB k) h) fullShare f)
  iexact H

/-- and the arrival buffer, once written, as what the arrival hands over. -/
theorem land_pay (f : Buf (Elt F) ((pieceM (outB k) h).view.loc (c : Thread nD τ)))
    (fd : Buf (Elt F) ((pieceM (inB k) h).view.loc (tgt k h c : Thread nD τ)))
    (hf : (pieceM (outB k) h).view.read (Elt F) f = sent X c k h) :
    ((pieceM (inB k) h).view.loc (tgt k h c : Thread nD τ) ↦[(pieceM (inB k) h).view.set]{fullShare}
        ((pieceM (inB k) h).view.write (Elt F) fd ((pieceM (outB k) h).view.read (Elt F) f) Finset.univ) : sProp 𝕄)
      ⊢ (Rd X).payload (msgCell (tgt k h c) (true, k, h)) 0 false := by
  rw [payload_recv, hf]
  unfold holds
  have e : (pieceM (inB k) h).view.read (Elt F) ((pieceM (inB k) h).view.write (Elt F) fd (sent X c k h) Finset.univ)
      = recd X (tgt k h c) k h := by
    unfold recd
    rw [src_tgt]
    funext j
    exact View.read_write_of_mem (v := (pieceM (inB k) h).view) fd (sent X c k h) (Finset.mem_univ j)
  rw [← e]
  exact owns_intro (tgt k h c : Thread nD τ) (pieceM (inB k) h) fullShare _

/-- Sending a message. -/
theorem runs_sendStep (d : Dev nD) (hd : d = tgt k h c) (q : IVec S384x256 8) (hq : q = sent X c k h)
    (O₀ O : CellTallies nD τ sig Unit) (hO : O₀ = O + tallyAt (msgCell (tgt k h c) (true, k, h)) () N) (Q : PUnit → sProp 𝕄) :
    iprop(know X K ∗ owing c O₀ ∗ sendTok c k h ∗ ((owing c O ∗ leftTok c k h) -∗ Q ⟨⟩))
      ⊢ Runs c (sendStep k h d (toPiece q)) Q := by
  subst hd
  unfold sendStep sendTok owing leftTok
  simp only [Prog.lift, Prog.bind_op, Prog.bind_ret, Prog.pure_eq_ret]
  iintro ⟨#HK, ⟨%W, HO⟩, ⟨Hs, Hd, HtS, HtR⟩, Hk⟩
  unfold holdsAny
  icases Hs with ⟨%qs, Hs⟩
  icases Hd with ⟨%qd, Hd⟩
  ihave Hs := (holds_open (outB k) h c qs) $$ Hs
  icases Hs with ⟨%fs, %hs, Hs⟩
  ihave Hd := (holds_open (inB k) h (tgt k h c) qd) $$ Hd
  icases Hd with ⟨%fd, %hd, Hd⟩
  iapply (wp_load 𝒱₀ (c : Thread nD τ) none Set.univ (m := outB k) (S := pieceS (outB k) h c) (load_sub (outB k) h)) $$ Hs; iintro Hs
  iapply (wp_store 𝒱₀ (c : Thread nD τ) none Set.univ (m := outB k) (r := pieceR h) (Mk := Finset.univ) (S := pieceS (outB k) h c) (store_sub (outB k) h)) $$ Hs
  iintro Hs
  ihave Hs := (Entails.of_eq (piece_pts (outB k) h c _).symm) $$ Hs
  ihave Hd := (Entails.of_eq (piece_pts (inB k) h (tgt k h c) fd).symm) $$ Hd
  iapply (Rounds.wp_send_pointsTo 𝒱₀ ER (Rd X) (c : Thread nD τ) none (κ₁ := K (c, .inr (false, k, h)))
      (κ₂ := K (tgt k h c, .inr (true, k, h))) (c' := (tgt k h c : Thread nD τ)) (src := pieceM (outB k) h) (dst := pieceM (inB k) h)
      (sS := msem (false, k, h)) (sem := msem (true, k, h))
      (r₁ := 0) (r₂ := 0) (d₁ := false) (d₂ := false) (fd := fd)
      (fs := ((outB k).access (pieceR h)).write (Elt F) fs (toPiece q) Finset.univ)
      (hd₁ X c (false, k, h)) (hd₁ X (tgt k h c) (true, k, h)) () () N (N_in k h) (amount_msg X c (false, k, h) false)
      (amount_msg X (tgt k h c) (true, k, h) false) O hO (W := W)
      (left_pay X c k h _) (land_pay X c k h _ _ ((store_piece (outB k) h fs q).trans hq))) $$ [Hs Hd HO HtS HtR]
  · isplitr; · iapply (know_inv X K c (.inr (false, k, h))); iexact HK
    isplitr; · iapply (know_inv X K (tgt k h c) (.inr (true, k, h))); iexact HK
    isplitl [Hs]; · iexact Hs
    isplitl [Hd]; · iexact Hd
    isplitl [HO]; · iexact HO
    isplitl [HtS]; · iexact HtS
    isplitr; · iapply (know_reached X K c (.inr (false, k, h))); iexact HK
    isplitl [HtR]; · iexact HtR
    iapply (know_reached X K (tgt k h c) (.inr (true, k, h))); iexact HK
  iintro ⟨Hc, HO⟩
  rw [wp_ret]; imodintro
  iapply Hk
  isplitl [HO]; · iexists _; iexact HO
  iexact Hc

/-- Waiting for an arrival. -/
theorem runs_recvWait (O : CellTallies nD τ sig Unit)
    (hM : (levAts L lv : sProp 𝕄) ⊢ MayWait (c : Thread nD τ) (msem (true, k, h)) () O) (Q : PUnit → sProp 𝕄) :
    iprop(know X K ∗ owing c O ∗ recvTok c k h ∗ ((owing c O ∗ recvDone X c k h) -∗ Q ⟨⟩)) ⊢ Runs c (recvWait k h) Q := by
  unfold recvWait recvTok owing recvDone
  simp only [Prog.lift]
  iintro ⟨#HK, ⟨%W, HO⟩, ⟨Hat, Hcr⟩, Hk⟩
  iapply (Rounds.wp_wait_rest_token 𝒱₀ ER (Rd X) (c : Thread nD τ) none (κ := K (c, .inr (true, k, h))) (sm := msem (true, k, h)) (k' := N)
      (fun Kt => (wpE_waitDma2_eq 𝒱₀ (c : Thread nD τ) none Set.univ Kt).trans (by rw [N_in k h]; rfl)) (Set.mem_univ _) () (O := O)
      (W := W) (R := 0) (m := 0) (T := ∅)
      (by rw [Nat.zero_add]; exact (expect_msg X c (true, k, h)).symm)) $$ [Hcr HO Hat]
  · isplitr; · iapply (know_inv X K c (.inr (true, k, h))); iexact HK
    isplitl [Hcr]; · iexact Hcr
    isplitl [HO]; · iexact HO
    isplitr; · iapply hM; iapply (know_levels X K); iexact HK
    iexact Hat
  iintro ⟨HO, Hat, -, Hpay⟩
  ihave Hp := (Entails.of_eq ((rest_msg X c (true, k, h)).trans (payload_recv X c false k h))) $$ Hpay
  ihave #HI := (know_inv X K c (.inr (true, k, h))) $$ HK
  imod (Rounds.cell_close ER (Rd X) (Set.mem_univ (K (c, .inr (true, k, h)))) (fun e => e) (R := 0 + 1)
    (duties_later X (msgCell c (true, k, h)))) $$ [Hat] with Hz
  · isplitr; · iexact HI
    iexact Hat
  rw [wp_ret]; imodintro
  iapply Hk
  isplitl [HO]; · iexists _; iexact HO
  isplitl [Hz]; · iexact Hz
  iexact Hp

/-- Waiting for a departure, nothing being owed any more. -/
theorem runs_sendWait (Q : PUnit → sProp 𝕄) :
    iprop(know X K ∗ owing c 0 ∗ (atPos ER (msgCell c (false, k, h)) 0 ∅ 0 ∗ leftTok c k h) ∗ ((owing c 0 ∗ leftDone c k h) -∗ Q ⟨⟩))
      ⊢ Runs c (sendWait k h) Q := by
  unfold sendWait leftTok owing leftDone
  simp only [Prog.lift]
  iintro ⟨#HK, ⟨%W, HO⟩, ⟨Hat, Hcr⟩, Hk⟩
  iapply (Rounds.wp_wait_rest_token 𝒱₀ ER (Rd X) (c : Thread nD τ) none (κ := K (c, .inr (false, k, h))) (sm := msem (false, k, h)) (k' := N)
      (fun Kt => (wpE_waitDma2_eq 𝒱₀ (c : Thread nD τ) none Set.univ Kt).trans (by rw [N_out k h]; rfl)) (Set.mem_univ _) () (O := 0)
      (W := W) (R := 0) (m := 0) (T := ∅)
      (by rw [Nat.zero_add]; exact (expect_msg X c (false, k, h)).symm)) $$ [Hcr HO Hat]
  · isplitr; · iapply (know_inv X K c (.inr (false, k, h))); iexact HK
    isplitl [Hcr]; · iexact Hcr
    isplitl [HO]; · iexact HO
    isplitr; · iapply (mayWait_none (F := F) c _); iapply (know_levels X K); iexact HK
    iexact Hat
  iintro ⟨HO, Hat, -, Hpay⟩
  ihave Hp := (Entails.of_eq ((rest_msg X c (false, k, h)).trans (payload_send X c false k h))) $$ Hpay
  ihave #HI := (know_inv X K c (.inr (false, k, h))) $$ HK
  imod (Rounds.cell_close ER (Rd X) (Set.mem_univ (K (c, .inr (false, k, h)))) (fun e => e) (R := 0 + 1)
    (duties_later X (msgCell c (false, k, h)))) $$ [Hat] with Hz
  · isplitr; · iexact HI
    iexact Hat
  rw [wp_ret]; imodintro
  iapply Hk
  isplitl [HO]; · iexists _; iexact HO
  isplitl [Hz]; · iexact Hz
  iexact Hp

end Steps

end Cert.Relay

end
-- ==== Proof.Body.lean ====
/-
  The kernel body on one device.

  Each step of `Steps` is run once, for any piece; `runs_each` strings six of them together; `runs_steps` is the whole body:
  from the buffers, the permissions and the debts that a device starts with, to its block of the result (`outAt`), its
  buffers back, and every semaphore spent.
-/
module

public import proofs.«01_k».proof.Proof.Rules

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Ins F) (K : Dev nD × Kd → ℕ) (c : Dev nD)

/-! ## The result's block -/

/-- Device `c`'s block of the result, piece by piece. -/
def outAt : (cc0_stg2_0 : Ref sig .tc).ty.Contents (Elt F) := fun (j : S384x1536.Idx) =>
  outPiece X c ⟨(j 1).val / 256, by have : (j 1).val < 1536 := (j 1).isLt; omega⟩
    (fun | ⟨0, _⟩ => (j 0 : Fin 384) | ⟨1, _⟩ => (⟨(j 1).val % 256, Nat.mod_lt _ (by decide)⟩ : Fin 256))

/-- The first `n` pieces of the block are written. -/
def Filled (n : ℕ) (f : (cc0_stg2_0 : Ref sig .tc).ty.Contents (Elt F)) : Prop :=
  ∀ h : Fin 6, h.val < n → oM.view.readAt (Elt F) (colO h).toLoadRect f = outPiece X c h

theorem colO_disj {h h' : Fin 6} (hn : h ≠ h') : Disjoint (colO h).set (colO h').set := by
  rw [Finset.disjoint_left]
  intro i hi hi'
  have e : 256 * h.val ≤ (i 1).val ∧ (i 1).val < 256 * h.val + 256 := (Rect.mem_set_unit.mp hi) 1
  have e' : 256 * h'.val ≤ (i 1).val ∧ (i 1).val < 256 * h'.val + 256 := (Rect.mem_set_unit.mp hi') 1
  exact hn (Fin.ext (by omega))

/-- Writing the next piece. -/
theorem filled_step (h : Fin 6) (f : (cc0_stg2_0 : Ref sig .tc).ty.Contents (Elt F)) (hf : Filled X c h.val f) :
    Filled X c (h.val + 1) ((oM.access (colO h)).write (Elt F) f (outPiece X c h) Finset.univ) := by
  intro h' hh
  by_cases e : h' = h
  · subst e
    exact View.read_write_univ (v := oM.access (colO h')) f (outPiece X c h')
  · rw [← hf h' (by have : h'.val ≠ h.val := fun e' => e (Fin.ext e'); omega)]
    refine View.readAt_congr fun i hi => View.write_of_not_mem _ _ _ fun hi' => ?_
    have h1 : Disjoint (oM.view.slice (colO h')).set (oM.view.slice (colO h)).set := View.disjoint_slice (colO_disj e)
    exact Finset.disjoint_left.mp h1 (by rw [View.set_slice]; exact hi) hi'

/-- All six pieces written are the block. -/
theorem filled_all (f : (cc0_stg2_0 : Ref sig .tc).ty.Contents (Elt F)) (hf : Filled X c 6 f) : f = outAt X c := by
  funext (j : S384x1536.Idx)
  have hj : (j 1).val < 1536 := (j 1).isLt
  have hh : (j 1).val / 256 < 6 := by omega
  unfold outAt
  rw [← hf ⟨(j 1).val / 256, hh⟩ hh]
  refine congrArg f (funext fun a => ?_)
  fin_cases a
  · exact Fin.ext (by show (j 0).val = 0 + 1 * (j 0).val; omega)
  · exact Fin.ext (by show (j 1).val = 256 * ((j 1).val / 256) + 1 * ((j 1).val % 256); omega)

/-! ## What a device holds throughout -/

/-- The staged blocks of `A` and `B`. -/
def stage : sProp 𝕄 :=
  iprop(((c : Thread nD τ).loc cc0_stg0_0 ↦{fullShare} X.a c) ∗ ((c : Thread nD τ).loc cc0_stg1_0 ↦{fullShare} X.b c))
/-- The result's block with its first `n` pieces written. -/
def outUpTo (n : ℕ) : sProp 𝕄 :=
  iprop(∃ f : Buf (Elt F) ((c : Thread nD τ).loc cc0_stg2_0), ⌜Filled X c n f⌝ ∗ ((c : Thread nD τ).loc cc0_stg2_0 ↦{fullShare} f))
/-- An arrival that has been waited for: the semaphore is spent, the buffer is back. -/
def spent (k : Fin 3) (h : Fin 6) : sProp 𝕄 := iprop(semVal (msgCell c (true, k, h)) 0 ∗ holdsAny (inB k) h c)

/-! ## The steps -/

/-- One program after another. -/
theorem runs_seq (p : P F PUnit) (k : PUnit → P F PUnit) (Q : PUnit → sProp 𝕄) :
    Runs c p (fun a => Runs c (k a) Q) ⊢ Runs c (p >>= k) Q := by
  unfold Runs
  rw [wp_bind]

/-- A partial product's message. -/
theorem runs_partStep (k : Fin 3) (r : Fin 3) (h : Fin 6) (d : Dev nD) (hd : d = tgt k h c) (hq : quantF (part X c r h) = sent X c k h)
    (O₀ O : CellTallies nD τ sig Unit) (hO : O₀ = O + tallyAt (msgCell (tgt k h c) (true, k, h)) () N) (Q : PUnit → sProp 𝕄) :
    iprop(know X K ∗ (stage X c ∗ owing c O₀) ∗ sendTok c k h ∗ ((stage X c ∗ owing c O ∗ leftTok c k h) -∗ Q ⟨⟩))
      ⊢ Runs c (partStep c k r h d) Q := by
  unfold partStep stage
  simp only [Prog.lift, Prog.bind_op, Prog.bind_ret]
  iintro ⟨#HK, ⟨⟨Ha, Hb⟩, HO⟩, Ht, Hk⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (runs_sendStep X K c k h d hd (quantF (part X c r h)) hq O₀ O hO Q)
  isplitr; · iexact HK
  isplitl [HO]; · iexact HO
  isplitl [Ht]; · iexact Ht
  iintro ⟨HO, Hl⟩
  iapply Hk
  isplitl [Ha Hb]
  · isplitl [Ha]; · iexact Ha
    iexact Hb
  isplitl [HO]; · iexact HO
  iexact Hl

/-- A partial product that another device is to relay. -/
theorem runs_diagStep (h : Fin 6) (Q : PUnit → sProp 𝕄) :
    iprop((know X K ∗ stage X c ∗ owing c (due c h.val)) ∗ sendTok c 1 h
        ∗ (((know X K ∗ stage X c ∗ owing c (due c (h.val + 1))) ∗ leftTok c 1 h) -∗ Q ⟨⟩))
      ⊢ Runs c (diagStep c h) Q := by
  unfold diagStep
  iintro ⟨⟨#HK, Hs, HO⟩, Ht, Hk⟩
  iapply (runs_partStep X K c 1 1 h _ (diagDev_eq c h) rfl _ _ (due_diag c h) Q)
  isplitr; · iexact HK
  isplitl [Hs HO]; · isplitl [Hs] <;> iassumption
  isplitl [Ht]; · iexact Ht
  iintro ⟨Hs, HO, Hl⟩
  iapply Hk
  isplitl [Hs HO]
  · isplitr; · iexact HK
    isplitl [Hs] <;> iassumption
  iexact Hl

/-- The relay. -/
theorem runs_relayStep (h : Fin 6) (Q : PUnit → sProp 𝕄) :
    iprop(know X K ∗ (stage X c ∗ owing c (due c (7 + 2 * h.val))) ∗ (recvTok c 1 h ∗ sendTok c 2 h)
        ∗ ((stage X c ∗ owing c (due c (6 + 2 * (h.val + 1))) ∗ leftTok c 2 h ∗ spent c 1 h) -∗ Q ⟨⟩))
      ⊢ Runs c (relayStep c h) Q := by
  unfold relayStep
  simp only [Prog.lift, Prog.bind_op, Prog.bind_ret]
  refine BIBase.Entails.trans ?_ (runs_seq c _ _ Q)
  iintro ⟨#HK, ⟨Hs, HO⟩, ⟨Hr, Ht⟩, Hk⟩
  iapply (runs_recvWait X K c 1 h (due c (7 + 2 * h.val)) (mayWait_relay c h))
  isplitr; · iexact HK
  isplitl [HO]; · iexact HO
  isplitl [Hr]; · iexact Hr
  unfold recvDone stage
  iintro ⟨HO, Hz, Hw⟩
  icases Hs with ⟨Ha, Hb⟩
  ihave Hw := (holds_open (inB 1) h c (recd X c 1 h)) $$ Hw
  icases Hw with ⟨%f, %hf, Hw⟩
  iapply (wp_load 𝒱₀ (c : Thread nD τ) none Set.univ (m := inB 1) (S := pieceS (inB 1) h c) (load_sub (inB 1) h)) $$ Hw; iintro Hw
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  rw [hf]
  iapply (runs_sendStep X K c 2 h _ (combDev_eq c h) (quantF (addf (dequantF (recd X c 1 h)) (part X c (bwd h) h))) rfl _ _ (due_comb c h) Q)
  isplitr; · iexact HK
  isplitl [HO]; · iexact HO
  isplitl [Ht]; · iexact Ht
  iintro ⟨HO, Hl⟩
  iapply Hk
  isplitl [Ha Hb]
  · isplitl [Ha]; · iexact Ha
    iexact Hb
  isplitl [HO]; · iexact HO
  isplitl [Hl]; · iexact Hl
  unfold spent holdsAny
  isplitl [Hz]; · iexact Hz
  iexists _
  iapply (holds_close (inB 1) h c _ f rfl); iexact Hw

/-- A partial product sent directly, and the relay. -/
theorem runs_midStep (h : Fin 6) (Q : PUnit → sProp 𝕄) :
    iprop((know X K ∗ stage X c ∗ owing c (due c (6 + 2 * h.val))) ∗ (sendTok c 0 h ∗ recvTok c 1 h ∗ sendTok c 2 h)
        ∗ (((know X K ∗ stage X c ∗ owing c (due c (6 + 2 * (h.val + 1)))) ∗ (leftTok c 0 h ∗ leftTok c 2 h ∗ spent c 1 h)) -∗ Q ⟨⟩))
      ⊢ Runs c (midStep c h) Q := by
  unfold midStep
  simp only [wp_bind]
  iintro ⟨⟨#HK, Hs, HO⟩, ⟨Ht, Hr, Ht2⟩, Hk⟩
  iapply (runs_partStep X K c 0 (fwd h) h _ (dirDev_eq c h) rfl _ _ (due_dir c h))
  isplitr; · iexact HK
  isplitl [Hs HO]; · isplitl [Hs] <;> iassumption
  isplitl [Ht]; · iexact Ht
  iintro ⟨Hs, HO, Hl⟩
  iapply (runs_relayStep X K c h Q)
  isplitr; · iexact HK
  isplitl [Hs HO]; · isplitl [Hs] <;> iassumption
  isplitl [Hr Ht2]; · isplitl [Hr] <;> iassumption
  iintro ⟨Hs, HO, Hl2, Hz⟩
  iapply Hk
  isplitl [Hs HO]
  · isplitr; · iexact HK
    isplitl [Hs] <;> iassumption
  isplitl [Hl]; · iexact Hl
  isplitl [Hl2] <;> iassumption

/-- A piece of the result. -/
theorem runs_finStep (h : Fin 6) (Q : PUnit → sProp 𝕄) :
    iprop((know X K ∗ stage X c ∗ owing c 0 ∗ outUpTo X c h.val) ∗ (recvTok c 0 h ∗ recvTok c 2 h)
        ∗ (((know X K ∗ stage X c ∗ owing c 0 ∗ outUpTo X c (h.val + 1)) ∗ (spent c 0 h ∗ spent c 2 h)) -∗ Q ⟨⟩))
      ⊢ Runs c (finStep c h) Q := by
  unfold finStep stage outUpTo
  simp only [Prog.lift, Prog.bind_op, Prog.bind_ret]
  iintro ⟨⟨#HK, ⟨Ha, Hb⟩, HO, ⟨%f, %hf, Ho⟩⟩, ⟨Hr0, Hr2⟩, Hk⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (runs_seq c)
  iapply (runs_recvWait X K c 0 h 0 (mayWait_none c _))
  isplitr; · iexact HK
  isplitl [HO]; · iexact HO
  isplitl [Hr0]; · iexact Hr0
  iintro ⟨HO, Hz0⟩
  iapply (runs_seq c)
  iapply (runs_recvWait X K c 2 h 0 (mayWait_none c _))
  isplitr; · iexact HK
  isplitl [HO]; · iexact HO
  isplitl [Hr2]; · iexact Hr2
  unfold recvDone
  iintro ⟨HO, Hz2, H2⟩
  icases Hz0 with ⟨Hz0, H0⟩
  ihave H0 := (holds_open (inB 0) h c (recd X c 0 h)) $$ H0
  icases H0 with ⟨%f0, %hf0, H0⟩
  ihave H2 := (holds_open (inB 2) h c (recd X c 2 h)) $$ H2
  icases H2 with ⟨%f2, %hf2, H2⟩
  iapply (wp_load 𝒱₀ (c : Thread nD τ) none Set.univ (m := inB 0) (S := pieceS (inB 0) h c) (load_sub (inB 0) h)) $$ H0; iintro H0
  iapply (wp_load 𝒱₀ (c : Thread nD τ) none Set.univ (m := inB 2) (S := pieceS (inB 2) h c) (load_sub (inB 2) h)) $$ H2; iintro H2
  iapply (wp_load 𝒱₀ (c : Thread nD τ) none Set.univ (m := oM) (Finset.subset_univ _)) $$ Ho; iintro Ho
  rw [hf0, hf2]
  iapply (wp_store 𝒱₀ (c : Thread nD τ) none Set.univ (m := oM) (r := colO h) (Mk := Finset.univ) (Finset.subset_univ _)) $$ Ho; iintro Ho
  rw [wp_ret]; imodintro
  iapply Hk
  isplitl [Ha Hb HO Ho]
  · isplitr; · iexact HK
    isplitl [Ha Hb]
    · isplitl [Ha]; · iexact Ha
      iexact Hb
    isplitl [HO]; · iexact HO
    iexists _
    isplitr
    rotate_left
    · iexact Ho
    · ipureintro; exact filled_step X c h f hf
  unfold spent holdsAny
  isplitl [Hz0 H0]
  · isplitl [Hz0]; · iexact Hz0
    iexists _
    iapply (holds_close (inB 0) h c _ f0 rfl); iexact H0
  isplitl [Hz2]; · iexact Hz2
  iexists _
  iapply (holds_close (inB 2) h c _ f2 rfl); iexact H2

/-- A departure awaited. -/
theorem left_step (k : Fin 3) (h : Fin 6) (Q : PUnit → sProp 𝕄) :
    iprop((know X K ∗ owing c 0) ∗ (atPos ER (msgCell c (false, k, h)) 0 ∅ 0 ∗ leftTok c k h)
        ∗ (((know X K ∗ owing c 0) ∗ leftDone c k h) -∗ Q ⟨⟩))
      ⊢ Runs c (sendWait k h) Q := by
  iintro ⟨⟨#HK, HO⟩, Ht, Hk⟩
  iapply (runs_sendWait X K c k h Q)
  isplitr; · iexact HK
  isplitl [HO]; · iexact HO
  isplitl [Ht]; · iexact Ht
  iintro ⟨HO, Hl⟩
  iapply Hk
  isplitl [HO]
  · isplitr; · iexact HK
    iexact HO
  iexact Hl

/-! ## Six steps in a row -/

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A step proved for any piece, for all six in order: `I n` holds when `n` are done; piece `h` takes `A h` and leaves `B h`. -/
theorem runs_each (f : Fin 6 → P F PUnit) (I : ℕ → sProp 𝕄) (A B : Fin 6 → sProp 𝕄)
    (hs : ∀ (h : Fin 6) (Q : PUnit → sProp 𝕄), iprop(I h.val ∗ A h ∗ ((I (h.val + 1) ∗ B h) -∗ Q ⟨⟩)) ⊢ Runs c (f h) Q)
    (Q : PUnit → sProp 𝕄) :
    iprop(I 0 ∗ bigSep Finset.univ A ∗ ((I 6 ∗ bigSep Finset.univ B) -∗ Q ⟨⟩)) ⊢ Runs c (eachPiece f) Q := by
  unfold eachPiece
  simp only [wp_bind, bigSep_fin6]
  iintro ⟨HI, ⟨H0, H1, H2, H3, H4, H5⟩, Hk⟩
  iapply (show ∀ Q, iprop(I 0 ∗ A 0 ∗ ((I 1 ∗ B 0) -∗ Q ⟨⟩)) ⊢ Runs c (f 0) Q from hs 0)
  isplitl [HI]; · iexact HI
  isplitl [H0]; · iexact H0
  iintro ⟨HI, H0⟩
  iapply (show ∀ Q, iprop(I 1 ∗ A 1 ∗ ((I 2 ∗ B 1) -∗ Q ⟨⟩)) ⊢ Runs c (f 1) Q from hs 1)
  isplitl [HI]; · iexact HI
  isplitl [H1]; · iexact H1
  iintro ⟨HI, H1⟩
  iapply (show ∀ Q, iprop(I 2 ∗ A 2 ∗ ((I 3 ∗ B 2) -∗ Q ⟨⟩)) ⊢ Runs c (f 2) Q from hs 2)
  isplitl [HI]; · iexact HI
  isplitl [H2]; · iexact H2
  iintro ⟨HI, H2⟩
  iapply (show ∀ Q, iprop(I 3 ∗ A 3 ∗ ((I 4 ∗ B 3) -∗ Q ⟨⟩)) ⊢ Runs c (f 3) Q from hs 3)
  isplitl [HI]; · iexact HI
  isplitl [H3]; · iexact H3
  iintro ⟨HI, H3⟩
  iapply (show ∀ Q, iprop(I 4 ∗ A 4 ∗ ((I 5 ∗ B 4) -∗ Q ⟨⟩)) ⊢ Runs c (f 4) Q from hs 4)
  isplitl [HI]; · iexact HI
  isplitl [H4]; · iexact H4
  iintro ⟨HI, H4⟩
  iapply (show ∀ Q, iprop(I 5 ∗ A 5 ∗ ((I 6 ∗ B 5) -∗ Q ⟨⟩)) ⊢ Runs c (f 5) Q from hs 5)
  isplitl [HI]; · iexact HI
  isplitl [H5]; · iexact H5
  iintro ⟨HI, H5⟩
  iapply Hk
  isplitl [HI]; · iexact HI
  isplitl [H0]; · iexact H0
  isplitl [H1]; · iexact H1
  isplitl [H2]; · iexact H2
  isplitl [H3]; · iexact H3
  isplitl [H4] <;> iassumption

/-! ## The handshake -/

omit [FloatOps F] in
/-- A family of pairs is a pair of families. -/
theorem sep_each {I : Type} (s : Finset I) (Φ Ψ : I → sProp 𝕄) :
    bigSep s (fun i => iprop(Φ i ∗ Ψ i)) = iprop(bigSep s Φ ∗ bigSep s Ψ) := BI.bigSep_sep s Φ Ψ
omit [FloatOps F] in
theorem each_mono {I : Type} {s : Finset I} {Φ Ψ : I → sProp 𝕄} (h : ∀ i, Φ i ⊢ Ψ i) : bigSep s Φ ⊢ bigSep s Ψ :=
  bigSep_mono fun i _ => h i

omit [FloatOps F] in
/-- The messages by the side to which they travel. -/
theorem by_side (Φ : Fin 3 × Fin 6 → sProp 𝕄) : bigSep Finset.univ Φ
    = iprop((bigSep (Finset.univ.filter fun x : Fin 3 × Fin 6 => up x.1 x.2 = false) Φ)
      ∗ (bigSep (Finset.univ.filter fun x : Fin 3 × Fin 6 => up x.1 x.2 = true) Φ)) := by
  rw [BI.bigSep_filter_split Finset.univ (fun x : Fin 3 × Fin 6 => up x.1 x.2 = false)]
  congr 2

/-- A device's arrival buffers, -/
def slots : sProp 𝕄 := bigSep Finset.univ fun x : Fin 3 × Fin 6 => holdsAny (inB x.1) x.2 c
/-- and those that it writes. -/
def slotsAt : sProp 𝕄 := bigSep Finset.univ fun x : Fin 3 × Fin 6 => holdsAny (inB x.1) x.2 (tgt x.1 x.2 c)

omit [FloatOps F] in
theorem slots_give : (slots c : sProp 𝕄) ⊢ iprop(barPay (side true c) false ∗ barPay (side false c) true) := by
  unfold slots barPay
  rw [by_side, show side false (side true c) = c from side_side' true c, show side true (side false c) = c from side_side' false c]
omit [FloatOps F] in
theorem slots_take : iprop(barPay c false ∗ barPay c true) ⊢ (slotsAt c : sProp 𝕄) := by
  have e : ∀ d : Bool, (barPay c d : sProp 𝕄)
      = bigSep (Finset.univ.filter fun x : Fin 3 × Fin 6 => up x.1 x.2 = d) fun x => holdsAny (inB x.1) x.2 (tgt x.1 x.2 c) := fun d => by
    unfold barPay tgt
    exact bigSep_congr fun x hx => by rw [(Finset.mem_filter.mp hx).2]
  unfold slotsAt
  rw [by_side, e, e]

/-- What the handshake takes besides the buffers. -/
def meetTok : sProp 𝕄 :=
  iprop(atPos ER (barCell c) 0 ∅ 0 ∗ cred (tallyAt (barCell c) () 2)
    ∗ dutyTok ER (barCell (side true c)) 0 false ∗ dutyTok ER (barCell (side false c)) 0 true)

/-- The handshake hands a device's arrival buffers to its neighbours, and theirs to it. -/
theorem runs_meet (Q : PUnit → sProp 𝕄) :
    iprop(know X K ∗ owing c (O₀ c) ∗ meetTok c ∗ slots c ∗ ((owing c (due c 0) ∗ semVal (barCell c) 0 ∗ slotsAt c) -∗ Q ⟨⟩))
      ⊢ Runs c (meet c) Q := by
  unfold meet meetTok owing
  simp only [semSignalWord, semWaitWord, Prog.lift, Prog.bind_op, Prog.bind_ret, Prog.pure_eq_ret]
  simp only [dev1_eq c, dev2_eq c]
  iintro ⟨#HK, ⟨%W, HO⟩, ⟨Hat, Hcr, Ht1, Ht2⟩, Hs, Hk⟩
  ihave Hs := (slots_give c) $$ Hs
  icases Hs with ⟨Hs1, Hs2⟩
  iapply (Rounds.wp_signal 𝒱₀ ER (Rd X) (c : Thread nD τ) none (dst := (side true c : Thread nD τ)) (κ := K (side true c, .inl ()))
      (d := false) (by rw [duties_bar]; exact Finset.mem_univ _) ((amount_bar X (side true c) false).trans (by decide)) () (O₁ c) rfl)
    $$ [HO Ht1 Hs1]
  · isplitr; · iapply (know_inv X K (side true c) (.inl ())); iexact HK
    isplitl [HO]; · iexact HO
    isplitl [Ht1]; · iexact Ht1
    isplitl [Hs1]; · rw [payload_bar]; iexact Hs1
    iapply (know_reached X K (side true c) (.inl ())); iexact HK
  iintro HO
  unfold O₁
  iapply (Rounds.wp_signal 𝒱₀ ER (Rd X) (c : Thread nD τ) none (dst := (side false c : Thread nD τ)) (κ := K (side false c, .inl ()))
      (d := true) (by rw [duties_bar]; exact Finset.mem_univ _) ((amount_bar X (side false c) true).trans (by decide)) () (due c 0) rfl)
    $$ [HO Ht2 Hs2]
  · isplitr; · iapply (know_inv X K (side false c) (.inl ())); iexact HK
    isplitl [HO]; · iexact HO
    isplitl [Ht2]; · iexact Ht2
    isplitl [Hs2]; · rw [payload_bar]; iexact Hs2
    iapply (know_reached X K (side false c) (.inl ())); iexact HK
  iintro HO
  iapply (Rounds.wp_wait_rest_token 𝒱₀ ER (Rd X) (c : Thread nD τ) none (κ := K (c, .inl ()))
      (wpE_semWait_eq 𝒱₀ (c : Thread nD τ) none Set.univ) (Set.mem_univ _) () (O := due c 0) (W := W) (R := 0) (m := 0) (T := ∅)
      (by rw [expect_bar]; decide)) $$ [Hcr HO Hat]
  · isplitr; · iapply (know_inv X K c (.inl ())); iexact HK
    isplitl [Hcr]; · iexact Hcr
    isplitl [HO]; · iexact HO
    isplitr; · iapply (mayWait_bar (F := F) c); iapply (know_levels X K); iexact HK
    iexact Hat
  iintro ⟨HO, Hat, -, Hpay⟩
  ihave Hp := (Entails.of_eq (rest_bar X c)) $$ Hpay
  ihave #HI := (know_inv X K c (.inl ())) $$ HK
  imod (Rounds.cell_close ER (Rd X) (Set.mem_univ (K (c, .inl ()))) (fun e => e) (R := 0 + 1)
    (duties_later X (barCell c))) $$ [Hat] with Hz
  · isplitr; · iexact HI
    iexact Hat
  rw [wp_ret]; imodintro
  iapply Hk
  isplitl [HO]; · iexists _; iexact HO
  isplitl [Hz]; · iexact Hz
  iapply (slots_take c); iexact Hp

/-! ## The whole body -/

/-- What a device starts with for one message: its send buffer, the permissions to pay the message's departure and arrival, and
    the rights to wait for its departure and for the arrival of its like. -/
def msgTok (k : Fin 3) (h : Fin 6) : sProp 𝕄 :=
  iprop(holdsAny (outB k) h c ∗ (dutyTok ER (msgCell c (false, k, h)) 0 false ∗ dutyTok ER (msgCell (tgt k h c) (true, k, h)) 0 false)
    ∗ atPos ER (msgCell c (false, k, h)) 0 ∅ 0 ∗ recvTok c k h)
/-- The same with the buffer to write. -/
def msgTok' (k : Fin 3) (h : Fin 6) : sProp 𝕄 :=
  iprop(sendTok c k h ∗ recvTok c k h ∗ atPos ER (msgCell c (false, k, h)) 0 ∅ 0)

omit [FloatOps F] in
theorem bigSep_kinds (Φ : Fin 3 → Fin 6 → sProp 𝕄) : (bigSep Finset.univ fun x : Fin 3 × Fin 6 => Φ x.1 x.2)
    = iprop((bigSep Finset.univ (Φ 0)) ∗ (bigSep Finset.univ (Φ 1)) ∗ (bigSep Finset.univ (Φ 2))) := by
  rw [BI.bigSep_univ_prod]
  exact bigSep_univ_eq_bigSepL [0, 1, 2] (by decide) (by decide) _

omit [FloatOps F] in
theorem toks_meet : iprop(slotsAt c ∗ bigSep Finset.univ fun x : Fin 3 × Fin 6 => msgTok c x.1 x.2)
    ⊢ (bigSep Finset.univ fun x : Fin 3 × Fin 6 => msgTok' c x.1 x.2 : sProp 𝕄) := by
  unfold slotsAt
  rw [← sep_each]
  refine each_mono fun x => ?_
  unfold msgTok msgTok' sendTok
  iintro ⟨Hi, Ho, ⟨H1, H2⟩, Ha, Hr⟩
  isplitl [Hi Ho H1 H2]
  · isplitl [Ho]; · iexact Ho
    isplitl [Hi]; · iexact Hi
    isplitl [H1] <;> iassumption
  isplitl [Hr] <;> iassumption

/-- The tokens of the messages of one kind. -/
def kindTok (k : Fin 3) : sProp 𝕄 :=
  iprop((bigSep Finset.univ fun h : Fin 6 => sendTok c k h) ∗ (bigSep Finset.univ fun h : Fin 6 => recvTok c k h)
    ∗ (bigSep Finset.univ fun h : Fin 6 => atPos ER (msgCell c (false, k, h)) 0 ∅ 0))

omit [FloatOps F] in
theorem toks_kinds : (bigSep Finset.univ fun x : Fin 3 × Fin 6 => msgTok' c x.1 x.2 : sProp 𝕄)
    = iprop(kindTok c 0 ∗ kindTok c 1 ∗ kindTok c 2) := by
  have e : ∀ k : Fin 3, (bigSep Finset.univ (msgTok' c k) : sProp 𝕄) = kindTok c k := fun k => by
    unfold msgTok' kindTok
    rw [sep_each, sep_each]
  rw [bigSep_kinds (F := F) (msgTok' c), e, e, e]

/-- The output's buffer with anything in it. -/
def outAny : sProp 𝕄 := iprop(∃ f : Buf (Elt F) ((c : Thread nD τ).loc cc0_stg2_0), ((c : Thread nD τ).loc cc0_stg2_0 ↦{fullShare} f))

/-- The body of device `c`. -/
theorem runs_steps (Q : PUnit → sProp 𝕄) :
    iprop(know X K ∗ owing c (O₀ c) ∗ stage X c ∗ outAny c ∗ meetTok c ∗ slots c
        ∗ (bigSep Finset.univ fun x : Fin 3 × Fin 6 => msgTok c x.1 x.2)
        ∗ ((owing c 0 ∗ stage X c ∗ ((c : Thread nD τ).loc cc0_stg2_0 ↦{fullShare} outAt X c) ∗ semVal (barCell c) 0
            ∗ (bigSep Finset.univ fun x : Fin 3 × Fin 6 => spent c x.1 x.2)
            ∗ (bigSep Finset.univ fun x : Fin 3 × Fin 6 => leftDone c x.1 x.2)) -∗ Q ⟨⟩))
      ⊢ Runs c (steps c) Q := by
  unfold steps
  simp only [wp_bind]
  iintro ⟨#HK, HO, Hs, Ho, Hm, Hi, Ht, Hk⟩
  iapply (runs_meet X K c)
  isplitr; · iexact HK
  isplitl [HO]; · iexact HO
  isplitl [Hm]; · iexact Hm
  isplitl [Hi]; · iexact Hi
  iintro ⟨HO, Hz, Hi⟩
  ihave Ht := (toks_meet c) $$ [Hi Ht]
  · isplitl [Hi] <;> iassumption
  ihave Ht := (Entails.of_eq (toks_kinds c)) $$ Ht
  unfold kindTok
  icases Ht with ⟨⟨Hs0, Hr0, Ha0⟩, ⟨Hs1, Hr1, Ha1⟩, ⟨Hs2, Hr2, Ha2⟩⟩
  -- the messages to be relayed
  iapply (runs_each c (diagStep c) (fun n => iprop(know X K ∗ stage X c ∗ owing c (due c n)))
    (fun h => sendTok c 1 h) (fun h => leftTok c 1 h) (fun h Q => runs_diagStep X K c h Q))
  isplitl [Hs HO]
  · isplitr; · iexact HK
    isplitl [Hs] <;> iassumption
  isplitl [Hs1]; · iexact Hs1
  iintro ⟨⟨-, Hs, HO⟩, Hl1⟩
  -- the direct messages and the relay
  iapply (runs_each c (midStep c) (fun n => iprop(know X K ∗ stage X c ∗ owing c (due c (6 + 2 * n))))
    (fun h => iprop(sendTok c 0 h ∗ recvTok c 1 h ∗ sendTok c 2 h)) (fun h => iprop(leftTok c 0 h ∗ leftTok c 2 h ∗ spent c 1 h))
    (fun h Q => runs_midStep X K c h Q))
  isplitl [Hs HO]
  · isplitr; · iexact HK
    isplitl [Hs] <;> iassumption
  isplitl [Hs0 Hr1 Hs2]
  · rw [sep_each, sep_each]
    isplitl [Hs0]; · iexact Hs0
    isplitl [Hr1] <;> iassumption
  iintro ⟨⟨-, Hs, HO⟩, Hl⟩
  ihave Hl := (Entails.of_eq ((sep_each (F := F) Finset.univ (leftTok c 0) _).trans
    (congrArg (BIBase.sep _) (sep_each (F := F) Finset.univ (leftTok c 2) (spent c 1))))) $$ Hl
  icases Hl with ⟨Hl0, Hl2, Hd1⟩
  -- the result
  iapply (runs_each c (finStep c) (fun n => iprop(know X K ∗ stage X c ∗ owing c 0 ∗ outUpTo X c n))
    (fun h => iprop(recvTok c 0 h ∗ recvTok c 2 h)) (fun h => iprop(spent c 0 h ∗ spent c 2 h))
    (fun h Q => runs_finStep X K c h Q))
  isplitl [Hs HO Ho]
  · isplitr; · iexact HK
    isplitl [Hs]; · iexact Hs
    isplitl [HO]; · rw [← due_end c]; iexact HO
    unfold outAny outUpTo
    icases Ho with ⟨%f, Ho⟩
    iexists f
    isplitr; · ipureintro; exact fun h hh => absurd hh (Nat.not_lt_zero _)
    iexact Ho
  isplitl [Hr0 Hr2]
  · rw [sep_each]
    isplitl [Hr0] <;> iassumption
  iintro ⟨⟨-, Hs, HO, Ho⟩, Hd⟩
  ihave Hd := (Entails.of_eq (sep_each (F := F) Finset.univ (spent c 0) (spent c 2))) $$ Hd
  icases Hd with ⟨Hd0, Hd2⟩
  -- the departures
  iapply (runs_each c (sendWait 1) (fun _ => iprop(know X K ∗ owing c 0))
    (fun h => iprop(atPos ER (msgCell c (false, 1, h)) 0 ∅ 0 ∗ leftTok c 1 h)) (fun h => leftDone c 1 h)
    (fun h Q => left_step X K c 1 h Q))
  isplitl [HO]; · isplitr; · iexact HK
                  iexact HO
  isplitl [Ha1 Hl1]
  · rw [sep_each]
    isplitl [Ha1] <;> iassumption
  iintro ⟨⟨-, HO⟩, Hb1⟩
  iapply (runs_each c (sendWait 0) (fun _ => iprop(know X K ∗ owing c 0))
    (fun h => iprop(atPos ER (msgCell c (false, 0, h)) 0 ∅ 0 ∗ leftTok c 0 h)) (fun h => leftDone c 0 h)
    (fun h Q => left_step X K c 0 h Q))
  isplitl [HO]; · isplitr; · iexact HK
                  iexact HO
  isplitl [Ha0 Hl0]
  · rw [sep_each]
    isplitl [Ha0] <;> iassumption
  iintro ⟨⟨-, HO⟩, Hb0⟩
  iapply (runs_each c (sendWait 2) (fun _ => iprop(know X K ∗ owing c 0))
    (fun h => iprop(atPos ER (msgCell c (false, 2, h)) 0 ∅ 0 ∗ leftTok c 2 h)) (fun h => leftDone c 2 h)
    (fun h Q => left_step X K c 2 h Q) Q)
  isplitl [HO]; · isplitr; · iexact HK
                  iexact HO
  isplitl [Ha2 Hl2]
  · rw [sep_each]
    isplitl [Ha2] <;> iassumption
  iintro ⟨⟨-, HO⟩, Hb2⟩
  iapply Hk
  isplitl [HO]; · iexact HO
  isplitl [Hs]; · iexact Hs
  isplitl [Ho]
  · unfold outUpTo
    icases Ho with ⟨%f, %hf, Ho⟩
    rw [filled_all X c f hf]
    iexact Ho
  isplitl [Hz]; · iexact Hz
  rw [bigSep_kinds (F := F) (spent c), bigSep_kinds (F := F) (leftDone c)]
  isplitl [Hd0 Hd1 Hd2]
  · isplitl [Hd0]; · iexact Hd0
    isplitl [Hd1] <;> iassumption
  isplitl [Hb0]; · iexact Hb0
  isplitl [Hb1] <;> iassumption

end Cert.Relay

end
-- ==== Proof.Obligation.lean ====
/-
  The body as the launch wants it: the staged blocks it starts from, the contents it leaves, and what else passes through.
-/
module

public import proofs.«01_k».proof.Proof.Body
public import proofs.«01_k».proof.Proof.Gen.KernelIdeal.Points

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What a device starts with -/

/-- The blocks of `A` and `B`, as the launch stages them. -/
def ins : Ins F where
  a c := (win0_0.blk (0 : Fin 1)).view.read (Elt F) (m ((c : Thread nD τ).loc main_arg0))
  b c := (win0_1.blk (0 : Fin 1)).view.read (Elt F) (m ((c : Thread nD τ).loc main_arg1))

section
variable (c : Dev nD)

/-- A message's tokens, without its buffers. -/
def msgRight (k : Fin 3) (h : Fin 6) : sProp 𝕄 :=
  iprop((dutyTok ER (msgCell c (false, k, h)) 0 false ∗ dutyTok ER (msgCell (tgt k h c) (true, k, h)) 0 false)
    ∗ atPos ER (msgCell c (false, k, h)) 0 ∅ 0 ∗ recvTok c k h)

/-- The send buffers, piece by piece. -/
def outs : sProp 𝕄 := bigSep Finset.univ fun x : Fin 3 × Fin 6 => holdsAny (outB x.1) x.2 c

/-- What a device starts with besides buffers, -/
def start : sProp 𝕄 :=
  iprop(∃ K, know (ins m) K ∗ meetTok c ∗ bigSep Finset.univ fun x : Fin 3 × Fin 6 => msgRight c x.1 x.2)
/-- and with its send and arrival buffers; -/
def Φ₀ : sProp 𝕄 := iprop(start m c ∗ outs c ∗ slots c)
/-- what it ends with. -/
def Φ₁ : sProp 𝕄 :=
  iprop(semVal (barCell c) 0 ∗ (bigSep Finset.univ fun x : Fin 3 × Fin 6 => spent c x.1 x.2)
    ∗ (bigSep Finset.univ fun x : Fin 3 × Fin 6 => leftDone c x.1 x.2))

omit [FloatOps F] in
theorem toks_bufs : iprop(outs c ∗ bigSep Finset.univ fun x : Fin 3 × Fin 6 => msgRight c x.1 x.2)
    ⊢ (bigSep Finset.univ fun x : Fin 3 × Fin 6 => msgTok c x.1 x.2 : sProp 𝕄) := by
  unfold outs
  rw [← sep_each]
  refine each_mono fun x => ?_
  unfold msgTok msgRight
  exact Entails.of_eq rfl

end

def dats (_ : Fin 1) (c : Dev nD) : Dat τ (Elt F) Unit ℕ UU ℕ cfg0 c where
  A w := m ((cfg0.win w).arr.view.loc (c : Thread nD τ))
  after w _ := match w with
    | ⟨0, _⟩ => (ins m).a c
    | ⟨1, _⟩ => (ins m).b c
    | ⟨2, _⟩ => outAt (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

/-- A staging buffer's contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () (t0_0 : Fin cfg0.N).succ ∗ stg c cc0_stg0_0 ((ins m).a c) ∗ stg c cc0_stg1_0 ((ins m).b c)
    ∗ stg c cc0_stg2_0 (outAt (ins m) c))

theorem sound_body (c : Dev nD) :
    bodyPre m c ⊢ wp frame (wpE (defs₀ (F := F)) 𝒱₀ c none) Set.univ
      (cc0_body (F := F) aM (Memref.isWhole_whole _) bM (Memref.isWhole_whole _) oM (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        cc0_scratch6 cc0_scratch7 cc0_scratch8 cc0_scratch9 cc0_scratch10 cc0_scratch11) (fun _ => bodyPost m c) := by
  rw [body_steps]
  simp only [Prog.lift, Prog.bind_op, Prog.bind_ret, wp_deviceId]
  unfold bodyPre Φ₀ start
  iintro ⟨⟨⟨%K, #HK, Hm, Hr⟩, Hou, Hsl⟩, Ho, ⟨%d0, %g0, %hg0, Ha⟩, ⟨%d1, %g1, %hg1, Hb⟩, ⟨%d2, %g2, %hg2, Hw⟩⟩
  have ha : g0 = (ins m).a c := by rw [hg0]; unfold Dat.before; rw [if_pos (fetch0_0 t0_0)]; rfl
  have hb : g1 = (ins m).b c := by rw [hg1]; unfold Dat.before; rw [if_pos (fetch0_1 t0_0)]; rfl
  subst ha hb
  unfold Dat.owesAt Pipeline.owesWithin
  icases Ho with ⟨%W, %hW, HO⟩
  iapply (runs_steps (ins m) K c fun _ => bodyPost m c)
  isplitr; · iexact HK
  isplitl [HO]; · unfold owing; iexists W; iexact HO
  isplitl [Ha Hb]
  · unfold stage
    isplitl [Ha] <;> iassumption
  isplitl [Hw]; · unfold outAny; iexists g2; iexact Hw
  isplitl [Hm]; · iexact Hm
  isplitl [Hsl]; · iexact Hsl
  isplitl [Hou Hr]
  · iapply (toks_bufs c)
    isplitl [Hou] <;> iassumption
  unfold owing stage
  iintro ⟨⟨%W', HO⟩, ⟨Ha, Hb⟩, Hw, Hz, Hsp, Hlf⟩
  unfold bodyPost Φ₁ Dat.owesAt Pipeline.owesWithin
  isplitl [Hz Hsp Hlf]
  · isplitl [Hz]; · iexact Hz
    isplitl [Hsp] <;> iassumption
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hw

set_option maxRecDepth 8000 in
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ
      (cc0_body (F := F) aM (Memref.isWhole_whole _) bM (Memref.isWhole_whole _) oM (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        cc0_scratch6 cc0_scratch7 cc0_scratch8 cc0_scratch9 cc0_scratch10 cc0_scratch11) (fun _ => bodyPost m c)
  exact sound_body m c

end Cert.Relay

end
-- ==== Proof.Launch.lean ====
/-
  The launch on four devices.

  Every semaphore of the schedule is put under its protocol, the permissions to pay are dealt to the devices that pay, and each
  device gets the credit of what the others owe it. `run_main` is the run: every execution ends, with each device's arrays as the
  body left them.
-/
module

public import proofs.«01_k».proof.Proof.Obligation
public import Idealize.ShloMosaic.Lib.Pipeline.CollectiveSegs
public import Idealize.ShloMosaic.Lib.Quiescent

@[expose] public section

noncomputable section

namespace Cert.Relay

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec msem := by decide

omit [FloatOps F] in
theorem share_eq [FloatOps F] (c : Dev nD) (w : Fin cfg0.W) : (dats m 0 c).share w = fullShare := by unfold Dat.share; split <;> rfl

abbrev kcell (ck : Dev nD × Kd) : GSem nD τ sig := cell ck.1 ck.2
theorem kcell_injective : Function.Injective kcell := by
  rintro ⟨c, k⟩ ⟨c', k'⟩ h
  obtain ⟨h1, h2⟩ := cell_inj h
  exact Prod.ext h1 h2
def allCells : Finset (GSem nD τ sig) := Finset.univ.map ⟨kcell, kcell_injective⟩

/-- A device's duties: its barrier's two, and one for each of its messages' semaphores. -/
abbrev tokOf (cj : Dev nD × (Bool ⊕ Msg)) : GSem nD τ sig × ℕ × Bool := match cj.2 with
  | .inl d => (barCell cj.1, 0, d)
  | .inr x => (msgCell cj.1 x, 0, false)
theorem tokOf_injective : Function.Injective tokOf := by
  rintro ⟨c, j⟩ ⟨c', j'⟩ h
  rcases j with d | x <;> rcases j' with d' | x'
  · obtain ⟨h1, -⟩ := cell_inj (k := .inl ()) (k' := .inl ()) (congrArg Prod.fst h)
    have h2 : d = d' := congrArg (fun x : GSem nD τ sig × ℕ × Bool => x.2.2) h
    exact Prod.ext h1 (congrArg Sum.inl h2)
  · obtain ⟨-, h2⟩ := cell_inj (k := .inl ()) (k' := .inr x') (congrArg Prod.fst h)
    exact absurd h2 (by simp)
  · obtain ⟨-, h2⟩ := cell_inj (k := .inr x) (k' := .inl ()) (congrArg Prod.fst h)
    exact absurd h2 (by simp)
  · obtain ⟨h1, h2⟩ := cell_inj (k := .inr x) (k' := .inr x') (congrArg Prod.fst h)
    exact Prod.ext h1 (congrArg Sum.inr (Sum.inr.inj h2))
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The tokens of a device's own semaphores, -/
def toks (c : Dev nD) : sProp 𝕄 :=
  iprop((dutyTok ER (barCell c) 0 false ∗ dutyTok ER (barCell c) 0 true)
    ∗ (bigSep Finset.univ fun x : Fin 3 × Fin 6 => dutyTok ER (msgCell c (false, x)) 0 false)
    ∗ bigSep Finset.univ fun x : Fin 3 × Fin 6 => dutyTok ER (msgCell c (true, x)) 0 false)
/-- and of the duties that it pays. -/
def payToks (c : Dev nD) : sProp 𝕄 :=
  iprop((dutyTok ER (barCell (side true c)) 0 false ∗ dutyTok ER (barCell (side false c)) 0 true)
    ∗ (bigSep Finset.univ fun x : Fin 3 × Fin 6 => dutyTok ER (msgCell c (false, x)) 0 false)
    ∗ bigSep Finset.univ fun x : Fin 3 × Fin 6 => dutyTok ER (msgCell (tgt x.1 x.2 c) (true, x)) 0 false)

/-- What a device is dealt, -/
def G (c : Dev nD) : sProp 𝕄 :=
  iprop((bigSep Finset.univ fun k : Kd => roundState ER (Rd (ins m)) (kcell (c, k)) 0)
    ∗ (bigSep Finset.univ fun k : Kd => iprop(atPos ER (kcell (c, k)) 0 ∅ 0 ∗ reached ER (kcell (c, k)) 0)) ∗ toks c)

/-- the protocols in force, -/
def records (K : Dev nD × Kd → ℕ) : sProp 𝕄 :=
  iprop((bigSep Finset.univ fun ck : Dev nD × Kd => cellInv ER (Rd (ins m)) (K ck) (kcell ck))
    ∗ bigSep Finset.univ fun ck : Dev nD × Kd => reached ER (kcell ck) 0)
instance records_persistent (K : Dev nD × Kd → ℕ) : BI.Persistent (records m K) := by unfold records; infer_instance

/-- and what it has then. -/
def G' (c : Dev nD) : sProp 𝕄 :=
  iprop(∃ K, records m K ∗ (bigSep Finset.univ fun k : Kd => atPos ER (kcell (c, k)) 0 ∅ 0) ∗ payToks c)

omit [FloatOps F] in
theorem bigSep_bool (Φ : Bool → sProp 𝕄) : bigSep Finset.univ Φ = iprop(Φ false ∗ Φ true) :=
  bigSep_univ_eq_bigSepL [false, true] (by decide) (by decide) Φ
omit [FloatOps F] in
theorem bigSep_msg (Φ : Msg → sProp 𝕄) : bigSep Finset.univ Φ
    = iprop((bigSep Finset.univ fun x => Φ (false, x)) ∗ (bigSep Finset.univ fun x => Φ (true, x))) := by
  rw [BI.bigSep_univ_prod]; exact bigSep_bool _
omit [FloatOps F] in
theorem bigSep_sum {A B : Type} [Fintype A] [Fintype B] (Φ : A ⊕ B → sProp 𝕄) :
    bigSep Finset.univ Φ = iprop((bigSep Finset.univ fun a => Φ (.inl a)) ∗ (bigSep Finset.univ fun b => Φ (.inr b))) := BI.bigSep_univ_sum Φ
omit [FloatOps F] in
theorem bigSep_kd (Φ : Kd → sProp 𝕄) : bigSep Finset.univ Φ
    = iprop(Φ (.inl ()) ∗ (bigSep Finset.univ fun x => Φ (.inr (false, x))) ∗ (bigSep Finset.univ fun x => Φ (.inr (true, x)))) := by
  rw [bigSep_sum, bigSep_msg]
  exact congrArg (fun P => BIBase.sep P _) (bigSep_singleton (Φ := fun a : Unit => Φ (.inl a)))

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, BI.bigSep_univ_prod]; rfl
  have hT : bigSep allToks (fun x => (dutyTok ER x.1 x.2.1 x.2.2 : sProp 𝕄)) = bigSep Finset.univ fun c : Dev nD => toks c := by
    unfold allToks; rw [bigSep_map, BI.bigSep_univ_prod]
    exact bigSep_congr fun c _ => by unfold toks; rw [bigSep_sum, bigSep_bool, bigSep_msg]; rfl
  iintro HX
  imod (Rounds.fund ER (Rd (ins m)) allCells allToks) $$ HX with ⟨Hst, Hr, Hat, Htok⟩
  imodintro
  ihave Hst' := (Entails.of_eq (hX fun g => roundState ER (Rd (ins m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [sep_each]
  isplitl [Hst']; · iexact Hst'
  isplitl [Hat' Hr']
  · isplitl [Hat'] <;> iassumption
  iexact Htok'

omit [FloatOps F] in
/-- The barrier semaphore is the launch's one semaphore that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) msem c ∗ unscopedSems0 c)
      ⊢ (bigSep Finset.univ fun k : Kd => semVal (kcell (c, k)) 0 : sProp 𝕄) := by
  rw [unscopedSems0_eq, bigSep_kd]
  unfold Pipeline.ownSems0
  rw [bigSep_msg]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) msem c ∗ unscopedSems0 c ∗ G m c)
      ⊢ |={Set.univ}=> iprop((bigSep Finset.univ fun k => iprop(∃ κ : ℕ, cellInv ER (Rd (ins m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (Rd (ins m)) (kcell (c, k)) 0)
      ⊢ (|={Set.univ}=> bigSep Finset.univ fun k => iprop(∃ κ : ℕ, cellInv ER (Rd (ins m)) κ (kcell (c, k))) : sProp 𝕄) from by
        rw [← sep_each]
        exact (bigSep_mono fun k _ => (Rounds.body_intro ER (Rd (ins m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The devices and messages, each message at its receiver. -/
def toTgt : Dev nD × (Fin 3 × Fin 6) ≃ Dev nD × (Fin 3 × Fin 6) where
  toFun y := (tgt y.2.1 y.2.2 y.1, y.2)
  invFun y := (src y.2.1 y.2.2 y.1, y.2)
  left_inv y := Prod.ext (src_tgt _ _ _) rfl
  right_inv y := Prod.ext (tgt_src _ _ _) rfl

omit [FloatOps F] in
theorem around (Φ : Dev nD → Fin 3 × Fin 6 → sProp 𝕄) :
    (bigSep Finset.univ fun c : Dev nD => bigSep Finset.univ fun x => Φ c x)
      = bigSep Finset.univ fun c : Dev nD => bigSep Finset.univ fun x : Fin 3 × Fin 6 => Φ (tgt x.1 x.2 c) x := by
  rw [← BI.bigSep_univ_prod fun y : Dev nD × (Fin 3 × Fin 6) => Φ y.1 y.2, BI.bigSep_univ_equiv toTgt, BI.bigSep_univ_prod]
  rfl

omit [FloatOps F] in
/-- The tokens dealt to the devices that pay. -/
theorem toks_around : (bigSep Finset.univ fun c : Dev nD => (toks c : sProp 𝕄)) ⊢ bigSep Finset.univ fun c : Dev nD => payToks c := by
  unfold toks payToks
  simp only [sep_each]
  rw [BI.bigSep_univ_equiv (ring true) (fun c : Dev nD => (dutyTok ER (barCell c) 0 false : sProp 𝕄)),
    BI.bigSep_univ_equiv (ring false) (fun c : Dev nD => (dutyTok ER (barCell c) 0 true : sProp 𝕄)),
    around fun c x => (dutyTok ER (msgCell c (true, x)) 0 false : sProp 𝕄)]
  exact Entails.of_eq rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← sep_each]; exact bigSep_mono h)

theorem regroup :
    (bigSep Finset.univ fun c : Dev nD => iprop((bigSep Finset.univ fun k => iprop(∃ κ : ℕ, cellInv ER (Rd (ins m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [sep_each, sep_each, ← BI.bigSep_univ_prod (fun ck : Dev nD × Kd => iprop(∃ κ : ℕ, cellInv ER (Rd (ins m)) κ (kcell ck))),
    bigSep_congr (s := Finset.univ) (fun (c : Dev nD) _ => sep_each Finset.univ (fun k : Kd => (atPos ER (kcell (c, k)) 0 ∅ 0 : sProp 𝕄)) (fun k => reached ER (kcell (c, k)) 0)),
    sep_each, ← BI.bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd (ins m)) κ (kcell ck) : sProp 𝕄))) $$ HI
  icases HK with ⟨%K, #HI⟩
  ihave Htk := (toks_around (F := F)) $$ Htok
  iapply (bigSep_with_persistent (R := records m K) (Φ := fun c => iprop((bigSep Finset.univ fun k : Kd => atPos ER (kcell (c, k)) 0 ∅ 0) ∗ payToks c))
    fun c _ => show _ ⊢ G' m c from by unfold G'; iintro H; iexists K; iexact H)
  isplitr
  · unfold records; isplitl; · iexact HI
    iexact HR
  · rw [sep_each]
    isplitl [Hat]; · iexact Hat
    iexact Htk

/-- Every device's semaphores put under their protocols, at once. -/
theorem glob : (bigSep Finset.univ fun c => iprop(Pipeline.ownSems0 (Ix := Unit) (Name := ℕ) (U := UU) (Lvl := ℕ) (Val := Elt F) (τ := τ) msem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => (cell_inj (k := .inl ()) (k' := .inl ()) h).1, fun h => h ▸ rfl⟩
theorem msg_eq_iff {a b : Dev nD} {x y : Msg} : Iff (msgCell a x = msgCell b y) (a = b ∧ x = y) :=
  ⟨fun h => ⟨(cell_inj (k := .inr x) (k' := .inr y) h).1, Sum.inr.inj (cell_inj (k := .inr x) (k' := .inr y) h).2⟩,
    fun h => by rw [h.1, h.2]⟩
theorem bar_ne_msg {a b : Dev nD} {x : Msg} : barCell a ≠ msgCell b x := fun h =>
  absurd (cell_inj (k := .inl ()) (k' := .inr x) h).2 (by simp)

theorem dueL_bar (d c : Dev nD) (l : List (Fin 3 × Fin 6)) : dueL d l (barCell c) () = 0 := by
  by_contra h
  obtain ⟨x, -, e⟩ := dueL_pos (Nat.pos_of_ne_zero h)
  exact bar_ne_msg e

theorem dueL_msg (d c : Dev nD) (x : Fin 3 × Fin 6) (l : List (Fin 3 × Fin 6)) :
    dueL d l (msgCell c (true, x)) () = l.count x * (if d = src x.1 x.2 c then N else 0) := by
  induction l with
  | nil => rw [List.count_nil, Nat.zero_mul]; rfl
  | cons y l ih =>
    rw [dueL, Pi.add_apply, Finsupp.add_apply, ih, tallyAt_apply, List.count_cons, Nat.add_mul]
    congr 1
    by_cases e : y = x
    · subst e
      rw [if_pos (beq_self_eq_true y), Nat.one_mul]
      refine if_congr ⟨fun h => ?_, fun h => ⟨?_, rfl⟩⟩ rfl rfl
      · rw [(msg_eq_iff.mp h.1).1, src_tgt]
      · rw [h, tgt_src]
    · rw [if_neg (fun h => e (Prod.mk.inj (msg_eq_iff.mp h.1).2).2.symm), if_neg (by simpa using e), Nat.zero_mul]

theorem order_count (x : Fin 3 × Fin 6) : (order.drop 0).count x = 1 := by revert x; decide

/-- What device `d` owes device `c`'s barrier, -/
theorem owed_bar (d c : Dev nD) : O₀ d (barCell c) () = (if d = side true c then 1 else 0) + (if d = side false c then 1 else 0) := by
  unfold O₀ O₁
  rw [Pi.add_apply, Finsupp.add_apply, Pi.add_apply, Finsupp.add_apply, due, dueL_bar, tallyAt_apply, tallyAt_apply, Nat.zero_add]
  congr 1
  · refine if_congr ⟨fun h => ?_, fun h => ⟨?_, rfl⟩⟩ rfl rfl
    · rw [bar_eq_iff.mp h.1]; exact (side_side true d).symm
    · rw [h]; exact congrArg barCell (side_side' true c).symm
  · refine if_congr ⟨fun h => ?_, fun h => ⟨?_, rfl⟩⟩ rfl rfl
    · rw [bar_eq_iff.mp h.1]; exact (side_side false d).symm
    · rw [h]; exact congrArg barCell (side_side' false c).symm

/-- and the arrival of a message. -/
theorem owed_msg (d c : Dev nD) (x : Fin 3 × Fin 6) : O₀ d (msgCell c (true, x)) () = if d = src x.1 x.2 c then N else 0 := by
  unfold O₀ O₁
  rw [Pi.add_apply, Finsupp.add_apply, Pi.add_apply, Finsupp.add_apply, due, dueL_msg, order_count, Nat.one_mul,
    tallyAt_ne_cell bar_ne_msg.symm, tallyAt_ne_cell bar_ne_msg.symm, Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (side true c) fun _ => 1, Finset.sum_ite_eq' Finset.univ (side false c) fun _ => 1,
    if_pos (Finset.mem_univ _), if_pos (Finset.mem_univ _)]

theorem launch_msg (c : Dev nD) (x : Fin 3 × Fin 6) :
    tallyOn (msgCell c (true, x)) (launchCredit (Pipeline.owing O₀) 0 (msgCell c (true, x)))
      = (tallyAt (msgCell c (true, x)) () N : CellTallies nD τ sig Unit) := by
  unfold tallyAt; refine congrArg _ (Finsupp.ext fun u => ?_); cases u
  rw [Pipeline.launchCredit_owing, Finsupp.single_eq_same, Finset.sum_congr rfl fun d _ => owed_msg d c x,
    Finset.sum_ite_eq' Finset.univ (src x.1 x.2 c) fun _ => N, if_pos (Finset.mem_univ _)]

/-- The semaphores that others pay: the barrier, and the arrivals. -/
def paid : Unit ⊕ (Fin 3 × Fin 6) ↪ SemLoc sig where
  toFun | .inl _ => .reg barS | .inr x => msem (true, x)
  inj' a b e := by
    rcases a with a | a <;> rcases b with b | b
    · rfl
    · exact absurd (csem_injective (a₁ := .inl ()) (a₂ := .inr (true, b)) e) (by simp)
    · exact absurd (csem_injective (a₁ := .inr (true, a)) (a₂ := .inl ()) e) (by simp)
    · exact congrArg Sum.inr (Prod.mk.inj (Sum.inr.inj (csem_injective (a₁ := .inr (true, a)) (a₂ := .inr (true, b)) e))).2

omit [FloatOps F] in
theorem creds (c : Dev nD) :
    (Pipeline.launchCred O₀ c : sProp 𝕄) ⊢ iprop(cred (tallyAt (barCell c) () 2)
      ∗ bigSep Finset.univ fun x : Fin 3 × Fin 6 => cred (tallyAt (msgCell c (true, x)) () N)) := by
  unfold Pipeline.launchCred
  refine BIBase.Entails.trans (bigSep_subset (Finset.subset_univ (Finset.univ.map paid))) ?_
  rw [bigSep_map, bigSep_sum]
  refine Entails.of_eq ?_
  rw [show (bigSep Finset.univ fun a : Unit => (cred (tallyOn ((c.tc : Thread nD τ), paid (.inl a))
      (launchCredit (Pipeline.owing O₀) 0 ((c.tc : Thread nD τ), paid (.inl a)))) : sProp 𝕄)) = cred (tallyAt (barCell c) () 2) from by
    rw [← launch_bar]; exact bigSep_singleton]
  refine congrArg _ (bigSep_congr fun x _ => ?_)
  rw [← launch_msg]; rfl

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  unfold G' records payToks
  icases HG with ⟨%K, ⟨Hi, Hre⟩, Hat, ⟨Hb1, Hb2⟩, Hs, Hr⟩
  ihave Hat := (Entails.of_eq (bigSep_kd (F := F) fun k => atPos ER (kcell (c, k)) 0 ∅ 0)) $$ Hat
  icases Hat with ⟨HaB, HaS, HaV⟩
  imodintro
  unfold start know meetTok
  isplitl
  · iexists K
    isplitl [Hi Hre Hlev]
    · isplitl [Hi]; · iexact Hi
      isplitl [Hre] <;> iassumption
    isplitl [HaB H1 Hb1 Hb2]
    · isplitl [HaB]; · iexact HaB
      isplitl [H1]; · iexact H1
      isplitl [Hb1] <;> iassumption
    unfold msgRight recvTok
    rw [sep_each, sep_each, sep_each, sep_each]
    isplitl [Hs Hr]; · isplitl [Hs] <;> iassumption
    isplitl [HaS]; · iexact HaS
    isplitl [HaV]; · iexact HaV
    iexact HN
  · iempintro

/-- A whole buffer with anything in it. -/
abbrev wholeAny (c : Dev nD) (b : Ref sig .tc) : sProp 𝕄 :=
  iprop(∃ f : Buf (Elt F) ((c : Thread nD τ).loc b), ((c : Thread nD τ).loc b) ↦{fullShare} f)

omit [FloatOps F] in
theorem whole_split (c : Dev nD) (b : Ref sig .tc) (M : Memref sig .tc .vmem S6x384x256 .i8)
    (e : ∀ f : Buf (Elt F) ((c : Thread nD τ).loc b), (((c : Thread nD τ).loc b) ↦{fullShare} f : sProp 𝕄)
      ⊢ iprop(∃ X, owns (Val := Elt F) (c : Thread nD τ) M fullShare X)) :
    (wholeAny c b : sProp 𝕄) ⊢ bigSep Finset.univ fun h => holdsAny M h c := by
  iintro ⟨%f, H⟩
  ihave H := (e f) $$ H
  icases H with ⟨%X, H⟩
  iapply (split_pieces M c X); iexact H
theorem whole_join (c : Dev nD) (b : Ref sig .tc) (M : Memref sig .tc .vmem S6x384x256 .i8)
    (e : ∀ X, (owns (Val := Elt F) (c : Thread nD τ) M fullShare X : sProp 𝕄) ⊢ wholeAny c b) :
    (bigSep Finset.univ fun h => holdsAny M h c : sProp 𝕄) ⊢ wholeAny c b := by
  iintro H
  ihave H := (join_pieces M c) $$ H
  icases H with ⟨%X, H⟩
  iapply (e X); iexact H

omit [FloatOps F] in
theorem whole_owns (c : Dev nD) (b : Ref sig .tc) (f : Buf (Elt F) ((c : Thread nD τ).loc b)) :
    (((c : Thread nD τ).loc b) ↦{fullShare} f : sProp 𝕄) ⊢ iprop(∃ X, owns (Val := Elt F) (c : Thread nD τ) (Memref.whole b) fullShare X) := by
  iintro H
  iexists f
  rw [owns_whole_eq]
  iexists f
  isplitr; · (ipureintro; rfl)
  iexact H
omit [FloatOps F] in
theorem owns_whole (c : Dev nD) (b : Ref sig .tc) (X : b.ty.Contents (Elt F)) :
    (owns (Val := Elt F) (c : Thread nD τ) (Memref.whole b) fullShare X : sProp 𝕄) ⊢ wholeAny c b := by
  rw [owns_whole_eq]
  iintro ⟨%f, -, H⟩
  iexists f
  iexact H

omit [FloatOps F] in
/-- The buffers that are not staged, by their pieces, -/
theorem rest_split (c : Dev nD) : (Pipeline.scopedRest (Ix := Unit) (Name := ℕ) (U := UU) (Lvl := ℕ) (Val := Elt F) cfg0.spec c : sProp 𝕄)
    ⊢ iprop(outs c ∗ slots c) := by
  rw [show (Pipeline.scopedRest (Ix := Unit) (Name := ℕ) (U := UU) (Lvl := ℕ) (Val := Elt F) cfg0.spec c : sProp 𝕄)
    = iprop(wholeAny c cc0_scratch0 ∗ wholeAny c cc0_scratch1 ∗ wholeAny c cc0_scratch2 ∗ wholeAny c cc0_scratch3
      ∗ wholeAny c cc0_scratch4 ∗ wholeAny c cc0_scratch5) from scopedRest0_eq c]
  unfold outs slots
  rw [bigSep_kinds (F := F) (fun k h => holdsAny (outB k) h c), bigSep_kinds (F := F) (fun k h => holdsAny (inB k) h c)]
  iintro ⟨H0, H1, H2, H3, H4, H5⟩
  isplitl [H0 H1 H2]
  · isplitl [H0]; · iapply (whole_split c cc0_scratch0 (outB 0) (whole_owns c cc0_scratch0)); iexact H0
    isplitl [H1]; · iapply (whole_split c cc0_scratch1 (outB 1) (whole_owns c cc0_scratch1)); iexact H1
    iapply (whole_split c cc0_scratch2 (outB 2) (whole_owns c cc0_scratch2)); iexact H2
  · isplitl [H3]; · iapply (whole_split c cc0_scratch3 (inB 0) (whole_owns c cc0_scratch3)); iexact H3
    isplitl [H4]; · iapply (whole_split c cc0_scratch4 (inB 1) (whole_owns c cc0_scratch4)); iexact H4
    iapply (whole_split c cc0_scratch5 (inB 2) (whole_owns c cc0_scratch5)); iexact H5
/-- and back. -/
theorem rest_join (c : Dev nD) : iprop(outs c ∗ slots c)
    ⊢ (Pipeline.scopedRest (Ix := Unit) (Name := ℕ) (U := UU) (Lvl := ℕ) (Val := Elt F) cfg0.spec c : sProp 𝕄) := by
  rw [show (Pipeline.scopedRest (Ix := Unit) (Name := ℕ) (U := UU) (Lvl := ℕ) (Val := Elt F) cfg0.spec c : sProp 𝕄)
    = iprop(wholeAny c cc0_scratch0 ∗ wholeAny c cc0_scratch1 ∗ wholeAny c cc0_scratch2 ∗ wholeAny c cc0_scratch3
      ∗ wholeAny c cc0_scratch4 ∗ wholeAny c cc0_scratch5) from scopedRest0_eq c]
  unfold outs slots
  rw [bigSep_kinds (F := F) (fun k h => holdsAny (outB k) h c), bigSep_kinds (F := F) (fun k h => holdsAny (inB k) h c)]
  iintro ⟨⟨H0, H1, H2⟩, H3, H4, H5⟩
  isplitl [H0]; · iapply (whole_join c cc0_scratch0 (outB 0) (owns_whole c cc0_scratch0)); iexact H0
  isplitl [H1]; · iapply (whole_join c cc0_scratch1 (outB 1) (owns_whole c cc0_scratch1)); iexact H1
  isplitl [H2]; · iapply (whole_join c cc0_scratch2 (outB 2) (owns_whole c cc0_scratch2)); iexact H2
  isplitl [H3]; · iapply (whole_join c cc0_scratch3 (inB 0) (owns_whole c cc0_scratch3)); iexact H3
  isplitl [H4]; · iapply (whole_join c cc0_scratch4 (inB 1) (owns_whole c cc0_scratch4)); iexact H4
  iapply (whole_join c cc0_scratch5 (inB 2) (owns_whole c cc0_scratch5)); iexact H5

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (rest_split c); iexact Hr

theorem phi1_exit (c : Dev nD) :
    (dats m 0 c).Φ (Fin.last cfg0.N) ⊢ iprop(unscopedSems0 c ∗ Pipeline.ownSems0 msem c ∗ Pipeline.scopedRest cfg0.spec c) := by
  rw [show (dats m 0 c).Φ (Fin.last cfg0.N) = Φ₁ c from rfl, unscopedSems0_eq]
  unfold Φ₁ spent leftDone
  rw [sep_each, sep_each]
  iintro ⟨Hz, ⟨HzI, HI⟩, HzO, HO⟩
  isplitl [Hz]; · iexact Hz
  isplitl [HzI HzO]
  · unfold Pipeline.ownSems0
    rw [bigSep_msg]
    isplitl [HzO]; · iexact HzO
    iexact HzI
  iapply (rest_join c)
  unfold outs slots
  isplitl [HO] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every execution of @main on the four devices, from any memory with zero counters, ends with each device's arrays as the body
    left them and every semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Relay

end
-- ==== Proof.Outcome.lean ====
/-
  What the run leaves in memory.

  `Launch` says that the run ends with the arrays as the one grid point wrote them back. Here that is read off: the two
  arguments are as they were, and the result of device `c` is the block `outAt (ins m) c` of `Body`.
-/
module

public import proofs.«01_k».proof.Proof.Launch
public import Idealize.ShloMosaic.Lib.Pipeline.ValueKit.Geometry

@[expose] public section

noncomputable section

namespace Cert.Relay

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (c : Dev nD)

theorem finalA_a : finalA m c (0 : Fin 3) = m ((c.tc : Thread nD τ).loc main_arg0) := (dats m 0 c).arrAt_in (0 : Fin 3) rfl _
theorem finalA_b : finalA m c (1 : Fin 3) = m ((c.tc : Thread nD τ).loc main_arg1) := (dats m 0 c).arrAt_in (1 : Fin 3) rfl _

/-- The result is written back whole, at the one grid point. -/
theorem out_whole : (cfg0.win (2 : Fin 3)).WholeAt (0 : Fin 1) :=
  ⟨flush0_2 _, fun t _ => Subsingleton.elim (α := Fin 1) _ _, fun a => by fin_cases a <;> exact ⟨rfl, rfl⟩⟩

theorem finalA_out : finalA m c (2 : Fin 3) = outAt (ins m) c :=
  (dats m 0 c).arrAt_eq_of_after_last (2 : Fin 3) (0 : Fin 1) out_whole (outAt (ins m) c) fun _ => rfl

/-- The staged block of `A` is the argument itself, -/
theorem ins_a : (ins m).a c = m ((c.tc : Thread nD τ).loc main_arg0) := by
  funext (j : S1536x768.Idx)
  refine congrArg (m ((c.tc : Thread nD τ).loc main_arg0)) (funext fun a => ?_)
  fin_cases a
  · exact Fin.ext (by show 0 * 1536 + 1 * (j 0).val = (j 0).val; omega)
  · exact Fin.ext (by show 0 * 768 + 1 * (j 1).val = (j 1).val; omega)
/-- and that of `B` likewise. -/
theorem ins_b : (ins m).b c = m ((c.tc : Thread nD τ).loc main_arg1) := by
  funext (j : S768x1536.Idx)
  refine congrArg (m ((c.tc : Thread nD τ).loc main_arg1)) (funext fun a => ?_)
  fin_cases a
  · exact Fin.ext (by show 0 * 768 + 1 * (j 0).val = (j 0).val; omega)
  · exact Fin.ext (by show 0 * 1536 + 1 * (j 1).val = (j 1).val; omega)

/-- The run, array by array. -/
theorem run_arrays (ρ : Dev nD → PrngReg) :
    θ_run defs (onTc (τ := τ) (main (F := F))) ⟨m, fun _ => 0, ρ⟩ (fun r => (∀ c : Dev nD,
      r.2.mem ((c.tc : Thread nD τ).loc main_v1) = outAt (ins m) c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (2 : Fin 3)).trans (finalA_out m c),
    (h.1 c (0 : Fin 3)).trans (finalA_a m c), (h.1 c (1 : Fin 3)).trans (finalA_b m c)⟩, h.2⟩) (run_main m ρ)

/-- The part of it that speaks of no value: the arguments are unchanged and every counter is zero. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_arrays m ρ)

end Cert.Relay

end
-- ==== Proof.Rounding.lean ====
/-
  The 8-bit rounding, as a function of one extended real.

  What travels between devices is a number of steps of 160/127, an integer between -127 and 127. Read exactly, converting
  such an integer to 8 bits and back changes nothing, so what a receiver makes of a message (`dequantF (quantF x)`) is, at
  each index, `rnd` of the sender's number. The reference states `rnd` without any 8-bit format.
-/
module

public import proofs.«01_k».proof.Proof.Steps
public import Idealize.ShloMosaic.Lib.IdealHost
public import Idealize.ShloMosaic.Lib.MatmulPlain
public import Idealize.ShloMosaic.Lib.StackMember
public import Idealize.ShloMosaic.Lib.Pipeline.Value

@[expose] public section

noncomputable section

namespace Cert.Relay

open Idealize.ShloMosaic
open Cert.KernelIdeal

/-- How many steps a number is, to the nearest, clipped. -/
def count (x : EReal) : EReal :=
  min (Ideal.ofBits .f32 0x42FE0000#32) (max (Ideal.ofBits .f32 0xC2FE0000#32)
    (Ideal.liftRound Ideal.roundHalfEven (x * Ideal.ofBits .f32 0x3F4B3333#32)))
/-- The value of that many steps. -/
def rnd (x : EReal) : EReal := count x * Ideal.ofBits .f32 0x3FA14285#32

theorem ofBits_127 : Ideal.ofBits .f32 0x42FE0000#32 = (((127 : ℤ) : ℝ) : EReal) := by
  simp [Ideal.ofBits, Ideal.ieee, -EReal.coe_mul, -EReal.coe_neg]
  norm_num
theorem ofBits_neg127 : Ideal.ofBits .f32 0xC2FE0000#32 = (((-127 : ℤ) : ℝ) : EReal) := by
  simp [Ideal.ofBits, Ideal.ieee, -EReal.coe_mul, -EReal.coe_neg]
  norm_num

/-- It is an integer that 8 bits hold. -/
theorem count_int (x : EReal) : ∃ n : ℤ, -127 ≤ n ∧ n ≤ 127 ∧ count x = ((n : ℝ) : EReal) := by
  unfold count
  rw [ofBits_127, ofBits_neg127]
  generalize x * Ideal.ofBits .f32 0x3F4B3333#32 = y
  induction y using EReal.rec with
  | bot => exact ⟨-127, by norm_num, by norm_num, by
      rw [Ideal.liftRound_bot, max_eq_left bot_le, min_eq_right (by norm_cast)]⟩
  | top => exact ⟨127, by norm_num, by norm_num, by
      rw [Ideal.liftRound_top, max_eq_right le_top, min_eq_left le_top]⟩
  | coe r => exact ⟨min 127 (max (-127) (Ideal.roundHalfEven r)), by omega, by omega, by
      rw [Ideal.liftRound_coe, Int.cast_min, Int.cast_max, EReal.coe_strictMono.monotone.map_min, EReal.coe_strictMono.monotone.map_max]⟩

/-- Converting such an integer to 8 bits and back changes nothing. -/
theorem toInt_fptosi (n : ℤ) (h : -127 ≤ n) (h' : n ≤ 127) : (Ideal.fptosi 8 ((n : ℝ) : EReal)).toInt = n := by
  have e : Ideal.toIntClamped (-(2 ^ (8 - 1) : Nat)) ((2 ^ (8 - 1) : Nat) - 1) ((n : ℝ) : EReal) = n := by
    rw [Ideal.toIntClamped_coe, Int.floor_intCast, Int.ceil_intCast, ite_self]
    norm_num
    omega
  rw [Ideal.fptosi, e]
  interval_cases n <;> rfl

theorem dequant_quant (x : FVec Ideal S384x256 .f32) (j : S384x256.Idx) : dequantF (F := Ideal) (quantF x) j = rnd (x j) := by
  show (((Ideal.fptosi 8 (count (x j))).toInt : ℝ) : EReal) * Ideal.ofBits .f32 0x3FA14285#32 = _
  obtain ⟨n, h, h', e⟩ := count_int (x j)
  rw [rnd, e, toInt_fptosi n h h']

end Cert.Relay

end
-- ==== Proof.KernelValue.lean ====
/-
  The kernel's result, index by index, in extended reals.

  `A` and `B` are the whole arrays; device `c` holds columns `768 c …` of `A` and rows `768 c …` of `B`. `share A B d i j`
  is what device `d`'s slice contributes to entry `(i, j)` of the product, and `total` puts the four contributions together
  with the rounding that each message brings. `outAt_eq`: device `c`'s block of the result is rows `384 c …` of `total`.
-/
module

public import proofs.«01_k».proof.Proof.Body
public import proofs.«01_k».proof.Proof.Rounding

@[expose] public section

noncomputable section

namespace Cert.Relay

open Cert.KernelIdeal Cert.KernelIdeal.Gen
open Idealize.ShloMosaic Idealize.ShloMosaic.ValueIdx
open scoped BigOperators

/-! ## The product by slices -/

/-- Position `k` of slice `d`. -/
def atSlice (d : Fin 4) (k : Fin 768) : Fin 3072 := ⟨768 * d.val + k.val, by omega⟩
/-- The device that is `s` places after the owner of row `i`. -/
def owner (i : Fin 1536) (s : ℕ) : Fin 4 := ⟨(i.val / 384 + s) % 4, Nat.mod_lt _ (by decide)⟩

section
variable (A : (⟨2, ![1536, 3072]⟩ : Shape).Idx → EReal) (B : (⟨2, ![3072, 1536]⟩ : Shape).Idx → EReal)

/-- What slice `d` contributes to entry `(i, j)`. -/
def share (d : Fin 4) (i j : Fin 1536) : EReal := ∑ k : Fin 768, A (ix2 i (atSlice d k)) * B (ix2 (atSlice d k) j)

/-- Entry `(i, j)`: the owner's own share; the share of the neighbour that sends it directly, rounded; and the other
    neighbour's share, added to the rounded share of the opposite device and rounded with it. Which neighbour is which
    alternates every 256 columns. -/
def total (i j : Fin 1536) : EReal :=
  share A B (owner i 0) i j + rnd (share A B (owner i (if j.val % 512 < 256 then 3 else 1)) i j)
    + rnd (rnd (share A B (owner i 2) i j) + share A B (owner i (if j.val % 512 < 256 then 1 else 3)) i j)

end

/-! ## One product -/

theorem prod_apply (a : Vec Ideal S384x768 .bf16) (b : Vec Ideal S768x256 .bf16) (i : Fin 384) (j : Fin 256) :
    prodF (F := Ideal) a b (ix2 i j) = ∑ k : Fin 768, (a (ix2 i k) : EReal) * (b (ix2 k j) : EReal) := by
  unfold prodF
  rw [shapeCast_self, shapeCast_self]
  refine (Ideal.matmul_plain_apply (M := 384) (K := 768) (N := 256) none a b _ i j).trans ?_
  show Ideal.ofBits .f32 0x00000000#32 + _ = _
  rw [Ideal.ofBits_zero_f32, zero_add]

/-! ## The messages of one device, given the whole arrays -/

section
variable (A : (⟨2, ![1536, 3072]⟩ : Shape).Idx → EReal) (B : (⟨2, ![3072, 1536]⟩ : Shape).Idx → EReal)
variable (X : Ins Ideal)

/-- Each device holds its slices. -/
structure Slices : Prop where
  a (c : Dev nD) (i : Fin 1536) (k : Fin 768) : X.a c (ix2 i k) = A (ix2 i (atSlice c k))
  b (c : Dev nD) (k : Fin 768) (j : Fin 1536) : X.b c (ix2 k j) = B (ix2 (atSlice c k) j)

/-- Row `i` of device `c`'s rows. -/
def rowOf (c : Fin 4) (i : Fin 384) : Fin 1536 := ⟨384 * c.val + i.val, by omega⟩
/-- Column `j` of piece `h`. -/
def colOf (h : Fin 6) (j : Fin 256) : Fin 1536 := ⟨256 * h.val + j.val, by omega⟩
/-- The device that is `r + 1` places after `c`. -/
def after (c : Fin 4) (r : Fin 3) : Fin 4 := ⟨(c.val + r.val + 1) % 4, Nat.mod_lt _ (by decide)⟩

variable {A B X} (hX : Slices A B X)
include hX

theorem part_apply (c : Dev nD) (r : Fin 3) (h : Fin 6) (i : Fin 384) (j : Fin 256) :
    part X c r h (ix2 i j) = share A B c (rowOf (after c r) i) (colOf h j) := by
  unfold part
  refine (prod_apply _ _ i j).trans ?_
  refine Finset.sum_congr rfl fun k _ => congrArg₂ (· * ·) ?_ ?_
  · rw [← hX.a]
    refine congrArg (X.a c) (funext fun a => ?_)
    fin_cases a
    · refine Fin.ext ?_
      show k0_off1 c (BitVec.ofNat 32 (1 + r.val)) 0 + 1 * i.val = 384 * ((c.val + r.val + 1) % 4) + i.val
      rw [k0_off1_eq c r, Nat.one_mul]; rfl
    · refine Fin.ext ?_
      show k0_off1 c (BitVec.ofNat 32 (1 + r.val)) 1 + 1 * k.val = k.val
      rw [k0_off1_eq c r, Nat.one_mul]; exact Nat.zero_add _
  · rw [← hX.b]
    refine congrArg (X.b c) (funext fun a => ?_)
    fin_cases a
    · exact Fin.ext (by show 0 + 1 * k.val = k.val; omega)
    · exact Fin.ext (by show 256 * h.val + 1 * j.val = 256 * h.val + j.val; omega)

theorem own_apply (c : Dev nD) (h : Fin 6) (i : Fin 384) (j : Fin 256) :
    own X c h (ix2 i j) = share A B c (rowOf c i) (colOf h j) := by
  unfold own
  refine (prod_apply _ _ i j).trans ?_
  refine Finset.sum_congr rfl fun k _ => congrArg₂ (· * ·) ?_ ?_
  · rw [← hX.a]
    refine congrArg (X.a c) (funext fun a => ?_)
    fin_cases a
    · refine Fin.ext ?_
      show k0_off2 c 0 + 1 * i.val = 384 * c.val + i.val
      rw [k0_off2_eq c, Nat.one_mul]; rfl
    · refine Fin.ext ?_
      show k0_off2 c 1 + 1 * k.val = k.val
      rw [k0_off2_eq c, Nat.one_mul]; exact Nat.zero_add _
  · rw [← hX.b]
    refine congrArg (X.b c) (funext fun a => ?_)
    fin_cases a
    · exact Fin.ext (by show 0 + 1 * k.val = k.val; omega)
    · exact Fin.ext (by show 256 * h.val + 1 * j.val = 256 * h.val + j.val; omega)

/-! ## The result

A message is for the rows of the device that it reaches, directly or after being relayed. -/

omit hX in
theorem after_direct (c : Dev nD) (h : Fin 6) : after (src 0 h c) (fwd h) = c := by revert c h; decide
omit hX in
theorem after_relay (c : Dev nD) (h : Fin 6) : after (src 2 h c) (bwd h) = c := by revert c h; decide
omit hX in
theorem after_diag (c : Dev nD) (h : Fin 6) : after (src 1 h (src 2 h c)) 1 = c := by revert c h; decide

theorem piece_apply (c : Dev nD) (h : Fin 6) (i : Fin 384) (j : Fin 256) :
    outPiece X c h (ix2 i j) = share A B c (rowOf c i) (colOf h j) + rnd (share A B (src 0 h c) (rowOf c i) (colOf h j))
      + rnd (rnd (share A B (src 1 h (src 2 h c)) (rowOf c i) (colOf h j)) + share A B (src 2 h c) (rowOf c i) (colOf h j)) := by
  have e0 : dequantF (F := Ideal) (recd X c 0 h) (ix2 i j) = rnd (share A B (src 0 h c) (rowOf c i) (colOf h j)) := by
    refine (dequant_quant _ _).trans (congrArg rnd ?_)
    rw [part_apply hX, after_direct]
  have e1 : dequantF (F := Ideal) (sent1 X (src 1 h (src 2 h c)) h) (ix2 i j)
      = rnd (share A B (src 1 h (src 2 h c)) (rowOf c i) (colOf h j)) := by
    refine (dequant_quant _ _).trans (congrArg rnd ?_)
    rw [part_apply hX, after_diag]
  have e2 : dequantF (F := Ideal) (recd X c 2 h) (ix2 i j) = rnd (rnd (share A B (src 1 h (src 2 h c)) (rowOf c i) (colOf h j))
      + share A B (src 2 h c) (rowOf c i) (colOf h j)) := by
    refine (dequant_quant _ _).trans (congrArg rnd ?_)
    show dequantF (F := Ideal) (sent1 X (src 1 h (src 2 h c)) h) (ix2 i j) + part X (src 2 h c) (bwd h) h (ix2 i j) = _
    rw [e1, part_apply hX, after_relay]
  show own X c h (ix2 i j) + dequantF (F := Ideal) (recd X c 0 h) (ix2 i j) + dequantF (F := Ideal) (recd X c 2 h) (ix2 i j) = _
  rw [own_apply hX, e0, e2]

omit hX in
theorem owner_row (c : Fin 4) (i : Fin 384) (s : ℕ) : owner (rowOf c i) s = ⟨(c.val + s) % 4, Nat.mod_lt _ (by decide)⟩ := by
  refine Fin.ext ?_
  show ((384 * c.val + i.val) / 384 + s) % 4 = (c.val + s) % 4
  have : (384 * c.val + i.val) / 384 = c.val := by omega
  rw [this]

omit hX in
theorem col_even (h : Fin 6) (j : Fin 256) : (colOf h j).val % 512 < 256 ↔ h.val % 2 = 0 := by
  show (256 * h.val + j.val) % 512 < 256 ↔ _
  omega

omit hX in
theorem src_owner (c : Fin 4) (h : Fin 6) :
    (src 0 h c : Fin 4) = ⟨(c.val + if h.val % 2 = 0 then 3 else 1) % 4, Nat.mod_lt _ (by decide)⟩
    ∧ (src 1 h (src 2 h c) : Fin 4) = ⟨(c.val + 2) % 4, Nat.mod_lt _ (by decide)⟩
    ∧ (src 2 h c : Fin 4) = ⟨(c.val + if h.val % 2 = 0 then 1 else 3) % 4, Nat.mod_lt _ (by decide)⟩ := by
  revert c h; decide

theorem piece_total (c : Dev nD) (h : Fin 6) (i : Fin 384) (j : Fin 256) :
    outPiece X c h (ix2 i j) = total A B (rowOf c i) (colOf h j) := by
  obtain ⟨e0, e1, e2⟩ := src_owner c h
  have ec : (c : Fin 4) = ⟨(c.val + 0) % 4, Nat.mod_lt _ (by decide)⟩ := Fin.ext (Nat.mod_eq_of_lt c.isLt).symm
  rw [piece_apply hX, total, owner_row, owner_row, owner_row, owner_row, if_congr (col_even h j) rfl rfl,
    if_congr (col_even h j) rfl rfl, ← e0, ← e1, ← e2, ← ec]

/-- Device `c`'s block of the result. -/
theorem outAt_eq (c : Dev nD) (i : Fin 384) (j : Fin 1536) : outAt X c (ix2 i j) = total A B (rowOf c i) j := by
  have hj : j.val / 256 < 6 := by omega
  have ej : colOf ⟨j.val / 256, hj⟩ ⟨j.val % 256, Nat.mod_lt _ (by decide)⟩ = j :=
    Fin.ext (Nat.div_add_mod j.val 256)
  exact (piece_total hX c ⟨j.val / 256, hj⟩ i ⟨j.val % 256, Nat.mod_lt _ (by decide)⟩).trans (by rw [ej])

end

end Cert.Relay

end
-- ==== Proof.ReferenceValue.lean ====
/-
  The reference's result, index by index, in extended reals: `result_eq` says that it is `total` of `KernelValue`.

  The reference is written with four matrices `part s` (for each block of rows, the product of the slice `s` places after
  the owner's), a choice between two of them by column, and a rounding. Here each of those is a definition, the
  reference's term is their composition, and each is read at one index.
-/
module

public import proofs.«01_k».proof.Proof.Gen.ReferenceIdeal.Run
public import proofs.«01_k».proof.Proof.KernelValue

@[expose] public section

noncomputable section

namespace Cert.Relay.Ref

open Cert.ReferenceIdeal Cert.ReferenceIdeal.Gen
open Idealize.ShloMosaic Idealize.ShloMosaic.ValueIdx Idealize.ShloMosaic.StackMember Idealize.ShloMosaic.TcCoe
open scoped BigOperators

abbrev Whole : Type := FVec Ideal S1536x1536 .f32

variable (A : FVec Ideal S1536x3072 .bf16) (B : FVec Ideal S3072x1536 .bf16)

theorem sliceA (d : Fin 4) : S1536x3072.Slices ![0, 768 * d.val] S1536x768 := by revert d; decide
theorem sliceB (d : Fin 4) : S3072x1536.Slices ![768 * d.val, 0] S768x1536 := by revert d; decide
theorem sliceR (r : Fin 4) : S1536x1536.Slices ![384 * r.val, 0] S384x1536 := by revert r; decide

/-- The product of slice `d`. -/
def prod (d : Fin 4) : Whole :=
  Host.dotGeneral dot_S1536x768_S768x1536_S1536x1536_1_0_0_1_n_n none
    (extractStridedSlice S1536x768 ![0, 768 * d.val] (extf .f32 A bitsLt_bf16_f32) (sliceA d))
    (extractStridedSlice S768x1536 ![768 * d.val, 0] (extf .f32 B bitsLt_bf16_f32) (sliceB d))

/-- For each block of rows, the product of the slice `s` places after its owner's. -/
def part (s : Fin 4) : Whole :=
  concatenate S1536x1536 0 (List.ofFn fun r : Fin 4 =>
      (⟨S384x1536, extractStridedSlice S384x1536 ![384 * r.val, 0] (prod A B (r + s)) (sliceR r)⟩ : (s : Shape) × (s.Idx → EReal)))
    concatenates_S384x1536_S384x1536_S384x1536_S384x1536_S1536x1536_d0

/-- A number in every place. -/
def splat (w : BitVec 32) : Whole := broadcastInDim S1536x1536 ![] bcast_S_S1536x1536 (constant S_ .f32 w)
/-- The first matrix in the even column pieces, the second in the odd ones. -/
def choose (x y : Whole) : Whole :=
  select (cmpi .slt (Host.remsi (iotaInDim S1536x1536 32 1) (broadcastInDim S1536x1536 ![] bcast_S_S1536x1536 (constantI S_ 32 512#32)))
    (broadcastInDim S1536x1536 ![] bcast_S_S1536x1536 (constantI S_ 32 256#32))) x y
/-- The rounding. -/
def rounded (x : Whole) : Whole :=
  mulf (minimumf (splat 0x42FE0000#32) (maximumf (splat 0xC2FE0000#32) (Host.roundeven (mulf x (splat 0x3F4B3333#32)))))
    (splat 0x3FA14285#32)

/-- The reference's result. -/
def result : Whole :=
  addf (addf (part A B 0) (rounded (choose (part A B 3) (part A B 1))))
    (rounded (addf (rounded (part A B 2)) (choose (part A B 1) (part A B 3))))

set_option maxRecDepth 8192 in
theorem res_eq (m : (ℓ : Loc nD τ sig) → Buf (Elt Ideal) ℓ) (c : Dev nD) :
    Value.res_out0 m c = result (m ((c.tc : Thread nD τ).loc main_arg0)) (m ((c.tc : Thread nD τ).loc main_arg1)) := rfl

/-! ## Index by index -/

theorem prod_apply (d : Fin 4) (i j : Fin 1536) : prod A B d (ix2 i j) = share A B d i j := by
  unfold prod
  refine (dotGeneral_plain_apply (m := 1536) (k := 768) (n := 1536) none _ _ i j).trans ?_
  refine Finset.sum_congr rfl fun k _ => congrArg₂ (· * ·) ?_ ?_
  · refine extractStridedSlice_apply _ _ (sliceA d) (ix2 i k) (ix2 i (atSlice d k)) fun a => ?_
    fin_cases a
    · exact (Nat.zero_add i.val).symm
    · rfl
  · refine extractStridedSlice_apply _ _ (sliceB d) (ix2 k j) (ix2 (atSlice d k) j) fun a => ?_
    fin_cases a
    · rfl
    · exact (Nat.zero_add j.val).symm

theorem part_apply (s : Fin 4) (i j : Fin 1536) : part A B s (ix2 i j) = share A B (owner i s.val) i j := by
  have hi : i.val / 384 < 4 := by omega
  refine (concatenate_ofFn_apply (s₁ := S384x1536) (t := S1536x1536) (0 : Fin 2)
    (fun r : Fin 4 => extractStridedSlice S384x1536 ![384 * r.val, 0] (prod A B (r + s)) (sliceR r)) _ rfl 384 rfl (ix2 i j)
    ⟨i.val / 384, hi⟩ rfl (ix2 ⟨i.val % 384, Nat.mod_lt _ (by decide)⟩ j) rfl fun b hb => ?_).trans ?_
  · fin_cases b
    · exact absurd rfl hb
    · rfl
  · refine (extractStridedSlice_apply _ _ (sliceR _) _ (ix2 i j) fun a => ?_).trans (prod_apply A B _ i j)
    fin_cases a
    · exact (Nat.div_add_mod i.val 384).symm
    · exact (Nat.zero_add j.val).symm

/-- The columns of the even pieces, as the reference finds them. -/
theorem even_col (j : Fin 1536) : IntOp.cmpi .slt (IntOp.remsi .host (BitVec.ofNat 32 j.val) 512#32) 256#32
    = if j.val % 512 < 256 then 1#1 else 0#1 := by
  revert j; decide +kernel

theorem choose_apply (x y : Whole) (i j : Fin 1536) :
    choose x y (ix2 i j) = if j.val % 512 < 256 then x (ix2 i j) else y (ix2 i j) := by
  show Scalar.select (IntOp.cmpi .slt (IntOp.remsi .host (BitVec.ofNat 32 j.val) 512#32) 256#32) (x (ix2 i j)) (y (ix2 i j)) = _
  rw [even_col]
  by_cases h : j.val % 512 < 256
  · rw [if_pos h, if_pos h]; rfl
  · rw [if_neg h, if_neg h]; rfl

theorem rounded_apply (x : Whole) (i : S1536x1536.Idx) : rounded x i = rnd (x i) := rfl

theorem result_eq (i j : Fin 1536) : result A B (ix2 i j) = total A B i j := by
  show part A B 0 (ix2 i j) + rounded (choose (part A B 3) (part A B 1)) (ix2 i j)
    + rounded (addf (rounded (part A B 2)) (choose (part A B 1) (part A B 3))) (ix2 i j) = _
  rw [rounded_apply, rounded_apply, choose_apply]
  show _ + _ + rnd (rounded (part A B 2) (ix2 i j) + choose (part A B 1) (part A B 3) (ix2 i j)) = _
  rw [rounded_apply, choose_apply, part_apply, part_apply, part_apply, part_apply, total]
  by_cases h : j.val % 512 < 256
  · rw [if_pos h, if_pos h, if_pos h, if_pos h]; rfl
  · rw [if_neg h, if_neg h, if_neg h, if_neg h]; rfl

end Cert.Relay.Ref

end
-- ==== Proof.Agree.lean ====
/-
  The two programs together: a device's arguments are slices of the whole arrays, and its result is a block of rows of the
  reference's.
-/
module

public import proofs.«01_k».proof.Proof.Outcome
public import proofs.«01_k».proof.Proof.ReferenceValue
public import Idealize.ShloMosaic.Lib.Layout

@[expose] public section

noncomputable section

namespace Cert.Relay

open Cert.KernelIdeal Cert.KernelIdeal.Gen
open Idealize.ShloMosaic Idealize.ShloMosaic.ValueIdx Idealize.ShloMosaic.TcCoe

variable {A : FVec Ideal ⟨2, ![1536, 3072]⟩ .bf16} {B : FVec Ideal ⟨2, ![3072, 1536]⟩ .bf16}
  {m : (ℓ : Loc nD τ sig) → Buf (Elt Ideal) ℓ}

/-- If each device's arguments are its blocks of `A` and `B`, what the kernel finds in them are the slices of `A` and `B`. -/
theorem slices_of_blocks
    (hA : ∀ c : Dev nD, m ((c.tc : Thread nD τ).loc main_arg0) = Layout.block ⟨2, ![1536, 768]⟩ ⟨2, ![1536, 3072]⟩ 1 4 c A)
    (hB : ∀ c : Dev nD, m ((c.tc : Thread nD τ).loc main_arg1) = Layout.block ⟨2, ![768, 1536]⟩ ⟨2, ![3072, 1536]⟩ 0 4 c B) :
    Slices A B (ins m) where
  a c i k := by
    rw [ins_a, hA c]
    refine congrArg A (funext fun a => ?_)
    fin_cases a
    · rfl
    · exact Fin.ext (congrArg (· + k.val) (Nat.mul_comm c.val 768))
  b c k j := by
    rw [ins_b, hB c]
    refine congrArg B (funext fun a => ?_)
    fin_cases a
    · exact Fin.ext (congrArg (· + k.val) (Nat.mul_comm c.val 768))
    · rfl

/-- What a device ends with is its block of rows of the reference's result. -/
theorem outAt_block (hX : Slices A B (ins m)) (c : Dev nD) :
    outAt (ins m) c = Layout.block ⟨2, ![384, 1536]⟩ ⟨2, ![1536, 1536]⟩ 0 4 c (Ref.result A B) := by
  funext (y : (⟨2, ![384, 1536]⟩ : Shape).Idx)
  obtain ⟨i, j, rfl⟩ : ∃ i j, y = ix2 i j := ⟨y 0, y 1, eq_ix2 y⟩
  refine (outAt_eq hX c i j).trans ((Ref.result_eq A B (rowOf c i) j).symm.trans ?_)
  refine congrArg (Ref.result A B) (funext fun a => ?_)
  fin_cases a
  · exact Fin.ext (congrArg (· + i.val) (Nat.mul_comm 384 c.val))
  · rfl

end Cert.Relay

end
-- ==== Proof.lean ====
/-
  The certificate's claims, each read off a run: the kernel's (`Relay.run_arrays` and `Relay.run_frame`, written once for any float values) and
  the reference's (`Value.run`). What the two results have to do with each other is `Relay.outAt_block`.
-/
module

public import proofs.«01_k».proof.Defs
public import proofs.«01_k».proof.Proof.Gen.Kernel
public import proofs.«01_k».proof.Proof.Agree

@[expose] public section

noncomputable section

namespace Cert.Proof

open Idealize.ShloMosaic Idealize.SL.Sem

set_option smartUnfolding false in
/-- The kernel at machine floats: its program is the same text. -/
theorem frame_kernel : Cert.quiescent_Kernel := fun m ρ _ => Relay.run_frame (F := Bits) m ρ

/-- The kernel in extended reals. -/
theorem frame_kernelIdeal : Cert.quiescent_KernelIdeal := fun m ρ _ => Relay.run_frame (F := Ideal) m ρ

/-- The reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The kernel computes the reference's blocks of rows. -/
theorem same_values : Cert.algebraic_KernelIdeal_ReferenceIdeal := fun m ρ m' ρ' _ hm =>
  ⟨Cert.ReferenceIdeal.Value.res_out0 m' 0,
    (θ_run Cert.KernelIdeal.defs _ _).mono
      (fun _ h c => ⟨((h.1 c).1.trans
          (Relay.outAt_block (Relay.slices_of_blocks (fun c => (hm c).1) fun c => (hm c).2) c)).trans
            (congrArg (Layout.block ⟨2, ![384, 1536]⟩ ⟨2, ![1536, 1536]⟩ 0 4 c) (Relay.Ref.res_eq m' 0).symm),
        (h.1 c).2⟩)
      (Relay.run_arrays (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_reference, trivial, same_values⟩

end Cert.Proof

end
